-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 64, 64]⟩ ⟨4, ![2, 4096, 64, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 64, 64]⟩ ⟨4, ![2, 4096, 64, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S2x256x4096 : Shape := ⟨3, ![2, 256, 4096]⟩
abbrev S16x2x256x256 : Shape := ⟨4, ![16, 2, 256, 256]⟩
abbrev S16x2x16x512 : Shape := ⟨4, ![16, 2, 16, 512]⟩
abbrev S2x16x512 : Shape := ⟨3, ![2, 16, 512]⟩
abbrev S16 : Shape := ⟨1, ![16]⟩
abbrev S_ : Shape := ⟨0, ![]⟩
abbrev S1 : Shape := ⟨1, ![1]⟩
abbrev S1x2x256x256 : Shape := ⟨4, ![1, 2, 256, 256]⟩
abbrev S2x256x256 : Shape := ⟨3, ![2, 256, 256]⟩
abbrev S512x512 : Shape := ⟨2, ![512, 512]⟩
abbrev S256x4096 : Shape := ⟨2, ![256, 4096]⟩
abbrev S16x1x256x64 : Shape := ⟨4, ![16, 1, 256, 64]⟩
abbrev S16x256x64 : Shape := ⟨3, ![16, 256, 64]⟩
abbrev S4096x64 : Shape := ⟨2, ![4096, 64]⟩
abbrev S256x64 : Shape := ⟨2, ![256, 64]⟩
abbrev S256 : Shape := ⟨1, ![256]⟩
abbrev S256x1 : Shape := ⟨2, ![256, 1]⟩
abbrev S64x512 : Shape := ⟨2, ![64, 512]⟩
abbrev S1x256x512 : Shape := ⟨3, ![1, 256, 512]⟩
abbrev S1x2x16x512 : Shape := ⟨4, ![1, 2, 16, 512]⟩
abbrev S2x16x16x512 : Shape := ⟨4, ![2, 16, 16, 512]⟩

abbrev nBuf : Space → Nat
  | .hbm => 8
  | .vmem => 12
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x64x64, .bf16⟩
  | .hbm, ⟨3, _⟩ => ⟨S2x256x64x64, .bf16⟩
  | .hbm, ⟨4, _⟩ => ⟨S256x512, .bf16⟩
  | .hbm, ⟨5, _⟩ => ⟨S2x256x4096, .bf16⟩
  | .hbm, ⟨6, _⟩ => ⟨S2x256x4096, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4096, .bf16⟩
  | .local _ .vmem, ⟨3, _⟩ => ⟨S2x256x4096, .bf16⟩
  | .local _ .vmem, ⟨4, _⟩ => ⟨S256x512, .bf16⟩
  | .local _ .vmem, ⟨5, _⟩ => ⟨S2x256x512, .f32⟩
  | .local _ .vmem, ⟨6, _⟩ => ⟨S16x2x256x256, .bf16⟩
  | .local _ .vmem, ⟨7, _⟩ => ⟨S16x2x256x256, .bf16⟩
  | .local _ .vmem, ⟨8, _⟩ => ⟨S2x256x512, .f32⟩
  | .local _ .vmem, ⟨9, _⟩ => ⟨S16x2x16x512, .f32⟩
  | .local _ .vmem, ⟨10, _⟩ => ⟨S2x16x512, .f32⟩
  | .local _ .vmem, ⟨11, _⟩ => ⟨S16x2x16x512, .f32⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_61 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  ![v65.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_65 : BitVec 32 := 0#32
  let c0_i32_66 : BitVec 32 := 0#32
  let c0_i32_67 : BitVec 32 := 0#32
  ![v2.toNat, 0, 0, 0]
def k0_off4 (d0 : Dev nD) (c1_i32_61 : BitVec 32) : Fin 3 → Nat :=
  let c0_i32_68 : BitVec 32 := 0#32
  let c0_i32_69 : BitVec 32 := 0#32
  let c256_i32 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let v66 : BitVec 32 := Scalar.muli c256_i32 v65
  ![0, 0, v66.toNat]
def k0_dev16 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_63 : BitVec 32 := 1#32
  let v67 : BitVec 32 := Scalar.muli v65 c1_i32_63
  let v68 : BitVec 32 := Scalar.addi c0_i32_64 v67
  v68.toNat
def k0_dev17 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_71 : BitVec 32 := 1#32
  let v77 : BitVec 32 := Scalar.muli v65 c1_i32_71
  let v78 : BitVec 32 := Scalar.addi c0_i32_72 v77
  v78.toNat
def k0_dev18 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_78 : BitVec 32 := 2#32
  let v86 : BitVec 32 := Scalar.addi v2 c2_i32_78
  let c16_i32_79 : BitVec 32 := 16#32
  let v87 : BitVec 32 := Scalar.remsi v86 c16_i32_79
  let c1_i32_81 : BitVec 32 := 1#32
  let v89 : BitVec 32 := Scalar.muli v87 c1_i32_81
  let v90 : BitVec 32 := Scalar.addi c0_i32_82 v89
  v90.toNat
def k0_dev19 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_78 : BitVec 32 := 2#32
  let v86 : BitVec 32 := Scalar.addi v2 c2_i32_78
  let c16_i32_79 : BitVec 32 := 16#32
  let v87 : BitVec 32 := Scalar.remsi v86 c16_i32_79
  let c1_i32_89 : BitVec 32 := 1#32
  let v99 : BitVec 32 := Scalar.muli v87 c1_i32_89
  let v100 : BitVec 32 := Scalar.addi c0_i32_90 v99
  v100.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_96 : BitVec 32 := 3#32
  let v108 : BitVec 32 := Scalar.addi v2 c3_i32_96
  let c16_i32_97 : BitVec 32 := 16#32
  let v109 : BitVec 32 := Scalar.remsi v108 c16_i32_97
  let c1_i32_99 : BitVec 32 := 1#32
  let v111 : BitVec 32 := Scalar.muli v109 c1_i32_99
  let v112 : BitVec 32 := Scalar.addi c0_i32_100 v111
  v112.toNat
def k0_dev21 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_96 : BitVec 32 := 3#32
  let v108 : BitVec 32 := Scalar.addi v2 c3_i32_96
  let c16_i32_97 : BitVec 32 := 16#32
  let v109 : BitVec 32 := Scalar.remsi v108 c16_i32_97
  let c1_i32_107 : BitVec 32 := 1#32
  let v121 : BitVec 32 := Scalar.muli v109 c1_i32_107
  let v122 : BitVec 32 := Scalar.addi c0_i32_108 v121
  v122.toNat
def k0_dev22 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_114 : BitVec 32 := 4#32
  let v130 : BitVec 32 := Scalar.addi v2 c4_i32_114
  let c16_i32_115 : BitVec 32 := 16#32
  let v131 : BitVec 32 := Scalar.remsi v130 c16_i32_115
  let c1_i32_117 : BitVec 32 := 1#32
  let v133 : BitVec 32 := Scalar.muli v131 c1_i32_117
  let v134 : BitVec 32 := Scalar.addi c0_i32_118 v133
  v134.toNat
def k0_dev23 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_114 : BitVec 32 := 4#32
  let v130 : BitVec 32 := Scalar.addi v2 c4_i32_114
  let c16_i32_115 : BitVec 32 := 16#32
  let v131 : BitVec 32 := Scalar.remsi v130 c16_i32_115
  let c1_i32_125 : BitVec 32 := 1#32
  let v143 : BitVec 32 := Scalar.muli v131 c1_i32_125
  let v144 : BitVec 32 := Scalar.addi c0_i32_126 v143
  v144.toNat
def k0_dev24 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_132 : BitVec 32 := 5#32
  let v152 : BitVec 32 := Scalar.addi v2 c5_i32_132
  let c16_i32_133 : BitVec 32 := 16#32
  let v153 : BitVec 32 := Scalar.remsi v152 c16_i32_133
  let c1_i32_135 : BitVec 32 := 1#32
  let v155 : BitVec 32 := Scalar.muli v153 c1_i32_135
  let v156 : BitVec 32 := Scalar.addi c0_i32_136 v155
  v156.toNat
def k0_dev25 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_132 : BitVec 32 := 5#32
  let v152 : BitVec 32 := Scalar.addi v2 c5_i32_132
  let c16_i32_133 : BitVec 32 := 16#32
  let v153 : BitVec 32 := Scalar.remsi v152 c16_i32_133
  let c1_i32_143 : BitVec 32 := 1#32
  let v165 : BitVec 32 := Scalar.muli v153 c1_i32_143
  let v166 : BitVec 32 := Scalar.addi c0_i32_144 v165
  v166.toNat
def k0_dev26 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_150 : BitVec 32 := 6#32
  let v174 : BitVec 32 := Scalar.addi v2 c6_i32_150
  let c16_i32_151 : BitVec 32 := 16#32
  let v175 : BitVec 32 := Scalar.remsi v174 c16_i32_151
  let c1_i32_153 : BitVec 32 := 1#32
  let v177 : BitVec 32 := Scalar.muli v175 c1_i32_153
  let v178 : BitVec 32 := Scalar.addi c0_i32_154 v177
  v178.toNat
def k0_dev27 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_150 : BitVec 32 := 6#32
  let v174 : BitVec 32 := Scalar.addi v2 c6_i32_150
  let c16_i32_151 : BitVec 32 := 16#32
  let v175 : BitVec 32 := Scalar.remsi v174 c16_i32_151
  let c1_i32_161 : BitVec 32 := 1#32
  let v187 : BitVec 32 := Scalar.muli v175 c1_i32_161
  let v188 : BitVec 32 := Scalar.addi c0_i32_162 v187
  v188.toNat
def k0_dev28 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_168 : BitVec 32 := 7#32
  let v196 : BitVec 32 := Scalar.addi v2 c7_i32_168
  let c16_i32_169 : BitVec 32 := 16#32
  let v197 : BitVec 32 := Scalar.remsi v196 c16_i32_169
  let c1_i32_171 : BitVec 32 := 1#32
  let v199 : BitVec 32 := Scalar.muli v197 c1_i32_171
  let v200 : BitVec 32 := Scalar.addi c0_i32_172 v199
  v200.toNat
def k0_dev29 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_168 : BitVec 32 := 7#32
  let v196 : BitVec 32 := Scalar.addi v2 c7_i32_168
  let c16_i32_169 : BitVec 32 := 16#32
  let v197 : BitVec 32 := Scalar.remsi v196 c16_i32_169
  let c1_i32_179 : BitVec 32 := 1#32
  let v209 : BitVec 32 := Scalar.muli v197 c1_i32_179
  let v210 : BitVec 32 := Scalar.addi c0_i32_180 v209
  v210.toNat
def k0_dev30 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_186 : BitVec 32 := 8#32
  let v218 : BitVec 32 := Scalar.addi v2 c8_i32_186
  let c16_i32_187 : BitVec 32 := 16#32
  let v219 : BitVec 32 := Scalar.remsi v218 c16_i32_187
  let c1_i32_189 : BitVec 32 := 1#32
  let v221 : BitVec 32 := Scalar.muli v219 c1_i32_189
  let v222 : BitVec 32 := Scalar.addi c0_i32_190 v221
  v222.toNat
def k0_dev31 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_186 : BitVec 32 := 8#32
  let v218 : BitVec 32 := Scalar.addi v2 c8_i32_186
  let c16_i32_187 : BitVec 32 := 16#32
  let v219 : BitVec 32 := Scalar.remsi v218 c16_i32_187
  let c1_i32_197 : BitVec 32 := 1#32
  let v231 : BitVec 32 := Scalar.muli v219 c1_i32_197
  let v232 : BitVec 32 := Scalar.addi c0_i32_198 v231
  v232.toNat
def k0_dev32 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_204 : BitVec 32 := 9#32
  let v240 : BitVec 32 := Scalar.addi v2 c9_i32_204
  let c16_i32_205 : BitVec 32 := 16#32
  let v241 : BitVec 32 := Scalar.remsi v240 c16_i32_205
  let c1_i32_207 : BitVec 32 := 1#32
  let v243 : BitVec 32 := Scalar.muli v241 c1_i32_207
  let v244 : BitVec 32 := Scalar.addi c0_i32_208 v243
  v244.toNat
def k0_dev33 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_204 : BitVec 32 := 9#32
  let v240 : BitVec 32 := Scalar.addi v2 c9_i32_204
  let c16_i32_205 : BitVec 32 := 16#32
  let v241 : BitVec 32 := Scalar.remsi v240 c16_i32_205
  let c1_i32_215 : BitVec 32 := 1#32
  let v253 : BitVec 32 := Scalar.muli v241 c1_i32_215
  let v254 : BitVec 32 := Scalar.addi c0_i32_216 v253
  v254.toNat
def k0_dev34 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_222 : BitVec 32 := 10#32
  let v262 : BitVec 32 := Scalar.addi v2 c10_i32_222
  let c16_i32_223 : BitVec 32 := 16#32
  let v263 : BitVec 32 := Scalar.remsi v262 c16_i32_223
  let c1_i32_225 : BitVec 32 := 1#32
  let v265 : BitVec 32 := Scalar.muli v263 c1_i32_225
  let v266 : BitVec 32 := Scalar.addi c0_i32_226 v265
  v266.toNat
def k0_dev35 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_222 : BitVec 32 := 10#32
  let v262 : BitVec 32 := Scalar.addi v2 c10_i32_222
  let c16_i32_223 : BitVec 32 := 16#32
  let v263 : BitVec 32 := Scalar.remsi v262 c16_i32_223
  let c1_i32_233 : BitVec 32 := 1#32
  let v275 : BitVec 32 := Scalar.muli v263 c1_i32_233
  let v276 : BitVec 32 := Scalar.addi c0_i32_234 v275
  v276.toNat
def k0_dev36 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_240 : BitVec 32 := 11#32
  let v284 : BitVec 32 := Scalar.addi v2 c11_i32_240
  let c16_i32_241 : BitVec 32 := 16#32
  let v285 : BitVec 32 := Scalar.remsi v284 c16_i32_241
  let c1_i32_243 : BitVec 32 := 1#32
  let v287 : BitVec 32 := Scalar.muli v285 c1_i32_243
  let v288 : BitVec 32 := Scalar.addi c0_i32_244 v287
  v288.toNat
def k0_dev37 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_240 : BitVec 32 := 11#32
  let v284 : BitVec 32 := Scalar.addi v2 c11_i32_240
  let c16_i32_241 : BitVec 32 := 16#32
  let v285 : BitVec 32 := Scalar.remsi v284 c16_i32_241
  let c1_i32_251 : BitVec 32 := 1#32
  let v297 : BitVec 32 := Scalar.muli v285 c1_i32_251
  let v298 : BitVec 32 := Scalar.addi c0_i32_252 v297
  v298.toNat
def k0_dev38 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_258 : BitVec 32 := 12#32
  let v306 : BitVec 32 := Scalar.addi v2 c12_i32_258
  let c16_i32_259 : BitVec 32 := 16#32
  let v307 : BitVec 32 := Scalar.remsi v306 c16_i32_259
  let c1_i32_261 : BitVec 32 := 1#32
  let v309 : BitVec 32 := Scalar.muli v307 c1_i32_261
  let v310 : BitVec 32 := Scalar.addi c0_i32_262 v309
  v310.toNat
def k0_dev39 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_258 : BitVec 32 := 12#32
  let v306 : BitVec 32 := Scalar.addi v2 c12_i32_258
  let c16_i32_259 : BitVec 32 := 16#32
  let v307 : BitVec 32 := Scalar.remsi v306 c16_i32_259
  let c1_i32_269 : BitVec 32 := 1#32
  let v319 : BitVec 32 := Scalar.muli v307 c1_i32_269
  let v320 : BitVec 32 := Scalar.addi c0_i32_270 v319
  v320.toNat
def k0_dev40 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_276 : BitVec 32 := 13#32
  let v328 : BitVec 32 := Scalar.addi v2 c13_i32_276
  let c16_i32_277 : BitVec 32 := 16#32
  let v329 : BitVec 32 := Scalar.remsi v328 c16_i32_277
  let c1_i32_279 : BitVec 32 := 1#32
  let v331 : BitVec 32 := Scalar.muli v329 c1_i32_279
  let v332 : BitVec 32 := Scalar.addi c0_i32_280 v331
  v332.toNat
def k0_dev41 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_276 : BitVec 32 := 13#32
  let v328 : BitVec 32 := Scalar.addi v2 c13_i32_276
  let c16_i32_277 : BitVec 32 := 16#32
  let v329 : BitVec 32 := Scalar.remsi v328 c16_i32_277
  let c1_i32_287 : BitVec 32 := 1#32
  let v341 : BitVec 32 := Scalar.muli v329 c1_i32_287
  let v342 : BitVec 32 := Scalar.addi c0_i32_288 v341
  v342.toNat
def k0_dev42 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_294 : BitVec 32 := 14#32
  let v350 : BitVec 32 := Scalar.addi v2 c14_i32_294
  let c16_i32_295 : BitVec 32 := 16#32
  let v351 : BitVec 32 := Scalar.remsi v350 c16_i32_295
  let c1_i32_297 : BitVec 32 := 1#32
  let v353 : BitVec 32 := Scalar.muli v351 c1_i32_297
  let v354 : BitVec 32 := Scalar.addi c0_i32_298 v353
  v354.toNat
def k0_dev43 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_294 : BitVec 32 := 14#32
  let v350 : BitVec 32 := Scalar.addi v2 c14_i32_294
  let c16_i32_295 : BitVec 32 := 16#32
  let v351 : BitVec 32 := Scalar.remsi v350 c16_i32_295
  let c1_i32_305 : BitVec 32 := 1#32
  let v363 : BitVec 32 := Scalar.muli v351 c1_i32_305
  let v364 : BitVec 32 := Scalar.addi c0_i32_306 v363
  v364.toNat
def k0_dev44 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_312 : BitVec 32 := 15#32
  let v372 : BitVec 32 := Scalar.addi v2 c15_i32_312
  let c16_i32_313 : BitVec 32 := 16#32
  let v373 : BitVec 32 := Scalar.remsi v372 c16_i32_313
  let c1_i32_315 : BitVec 32 := 1#32
  let v375 : BitVec 32 := Scalar.muli v373 c1_i32_315
  let v376 : BitVec 32 := Scalar.addi c0_i32_316 v375
  v376.toNat
def k0_dev45 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_312 : BitVec 32 := 15#32
  let v372 : BitVec 32 := Scalar.addi v2 c15_i32_312
  let c16_i32_313 : BitVec 32 := 16#32
  let v373 : BitVec 32 := Scalar.remsi v372 c16_i32_313
  let c1_i32_323 : BitVec 32 := 1#32
  let v385 : BitVec 32 := Scalar.muli v373 c1_i32_323
  let v386 : BitVec 32 := Scalar.addi c0_i32_324 v385
  v386.toNat
def k0_off5 (d0 : Dev nD) : Fin 3 → Nat :=
  let c0 : Index := 0#32
  let c0_331 : Index := 0#32
  let c256_i32_330 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v394 : BitVec 32 := Scalar.muli c256_i32_330 v2
  let v395 : Index := Scalar.indexCast v394
  ![0, 0, v395.toNat]
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v399 : Index := Scalar.indexCast v2
  let c0_332 : Index := 0#32
  let c0_333 : Index := 0#32
  let c0_334 : Index := 0#32
  ![v399.toNat, 0, 0, 0]
def k0_off7 (d0 : Dev nD) (c1_i32_364 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v480 : BitVec 32 := Scalar.subi v2 c1_i32_364
  let c16_i32_365 : BitVec 32 := 16#32
  let v481 : BitVec 32 := Scalar.addi v480 c16_i32_365
  let c16_i32_366 : BitVec 32 := 16#32
  let v482 : BitVec 32 := Scalar.remsi v481 c16_i32_366
  ![v482.toNat]
def k0_off8 (d0 : Dev nD) (c1_i32_364 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v480 : BitVec 32 := Scalar.subi v2 c1_i32_364
  let c16_i32_365 : BitVec 32 := 16#32
  let v481 : BitVec 32 := Scalar.addi v480 c16_i32_365
  let c16_i32_366 : BitVec 32 := 16#32
  let v482 : BitVec 32 := Scalar.remsi v481 c16_i32_366
  let c0_i32_369 : BitVec 32 := 0#32
  let c0_i32_370 : BitVec 32 := 0#32
  let c0_i32_371 : BitVec 32 := 0#32
  ![v482.toNat, 0, 0, 0]
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_955 : BitVec 32 := 0#32
  let c0_i32_956 : BitVec 32 := 0#32
  let c0_i32_957 : BitVec 32 := 0#32
  ![v2.toNat, 0, 0, 0]
def k0_off10 (d0 : Dev nD) (c1_i32_950 : BitVec 32) : Fin 3 → Nat :=
  let c0_i32_958 : BitVec 32 := 0#32
  let c16_i32_952 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1117 : BitVec 32 := Scalar.addi v2 c1_i32_950
  let c16_i32_951 : BitVec 32 := 16#32
  let v1118 : BitVec 32 := Scalar.remsi v1117 c16_i32_951
  let v1119 : BitVec 32 := Scalar.muli c16_i32_952 v1118
  let c0_i32_959 : BitVec 32 := 0#32
  ![0, v1119.toNat, 0]
def k0_dev46 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_950 : BitVec 32 := 1#32
  let v1117 : BitVec 32 := Scalar.addi v2 c1_i32_950
  let c16_i32_951 : BitVec 32 := 16#32
  let v1118 : BitVec 32 := Scalar.remsi v1117 c16_i32_951
  let c1_i32_953 : BitVec 32 := 1#32
  let v1120 : BitVec 32 := Scalar.muli v1118 c1_i32_953
  let v1121 : BitVec 32 := Scalar.addi c0_i32_954 v1120
  v1121.toNat
def k0_dev47 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_960 : BitVec 32 := 2#32
  let v1129 : BitVec 32 := Scalar.addi v2 c2_i32_960
  let c16_i32_961 : BitVec 32 := 16#32
  let v1130 : BitVec 32 := Scalar.remsi v1129 c16_i32_961
  let c1_i32_963 : BitVec 32 := 1#32
  let v1132 : BitVec 32 := Scalar.muli v1130 c1_i32_963
  let v1133 : BitVec 32 := Scalar.addi c0_i32_964 v1132
  v1133.toNat
def k0_dev48 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_970 : BitVec 32 := 3#32
  let v1141 : BitVec 32 := Scalar.addi v2 c3_i32_970
  let c16_i32_971 : BitVec 32 := 16#32
  let v1142 : BitVec 32 := Scalar.remsi v1141 c16_i32_971
  let c1_i32_973 : BitVec 32 := 1#32
  let v1144 : BitVec 32 := Scalar.muli v1142 c1_i32_973
  let v1145 : BitVec 32 := Scalar.addi c0_i32_974 v1144
  v1145.toNat
def k0_dev49 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_980 : BitVec 32 := 4#32
  let v1153 : BitVec 32 := Scalar.addi v2 c4_i32_980
  let c16_i32_981 : BitVec 32 := 16#32
  let v1154 : BitVec 32 := Scalar.remsi v1153 c16_i32_981
  let c1_i32_983 : BitVec 32 := 1#32
  let v1156 : BitVec 32 := Scalar.muli v1154 c1_i32_983
  let v1157 : BitVec 32 := Scalar.addi c0_i32_984 v1156
  v1157.toNat
def k0_dev50 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_990 : BitVec 32 := 5#32
  let v1165 : BitVec 32 := Scalar.addi v2 c5_i32_990
  let c16_i32_991 : BitVec 32 := 16#32
  let v1166 : BitVec 32 := Scalar.remsi v1165 c16_i32_991
  let c1_i32_993 : BitVec 32 := 1#32
  let v1168 : BitVec 32 := Scalar.muli v1166 c1_i32_993
  let v1169 : BitVec 32 := Scalar.addi c0_i32_994 v1168
  v1169.toNat
def k0_dev51 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1000 : BitVec 32 := 6#32
  let v1177 : BitVec 32 := Scalar.addi v2 c6_i32_1000
  let c16_i32_1001 : BitVec 32 := 16#32
  let v1178 : BitVec 32 := Scalar.remsi v1177 c16_i32_1001
  let c1_i32_1003 : BitVec 32 := 1#32
  let v1180 : BitVec 32 := Scalar.muli v1178 c1_i32_1003
  let v1181 : BitVec 32 := Scalar.addi c0_i32_1004 v1180
  v1181.toNat
def k0_dev52 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1010 : BitVec 32 := 7#32
  let v1189 : BitVec 32 := Scalar.addi v2 c7_i32_1010
  let c16_i32_1011 : BitVec 32 := 16#32
  let v1190 : BitVec 32 := Scalar.remsi v1189 c16_i32_1011
  let c1_i32_1013 : BitVec 32 := 1#32
  let v1192 : BitVec 32 := Scalar.muli v1190 c1_i32_1013
  let v1193 : BitVec 32 := Scalar.addi c0_i32_1014 v1192
  v1193.toNat
def k0_dev53 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1020 : BitVec 32 := 8#32
  let v1201 : BitVec 32 := Scalar.addi v2 c8_i32_1020
  let c16_i32_1021 : BitVec 32 := 16#32
  let v1202 : BitVec 32 := Scalar.remsi v1201 c16_i32_1021
  let c1_i32_1023 : BitVec 32 := 1#32
  let v1204 : BitVec 32 := Scalar.muli v1202 c1_i32_1023
  let v1205 : BitVec 32 := Scalar.addi c0_i32_1024 v1204
  v1205.toNat
def k0_dev54 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1030 : BitVec 32 := 9#32
  let v1213 : BitVec 32 := Scalar.addi v2 c9_i32_1030
  let c16_i32_1031 : BitVec 32 := 16#32
  let v1214 : BitVec 32 := Scalar.remsi v1213 c16_i32_1031
  let c1_i32_1033 : BitVec 32 := 1#32
  let v1216 : BitVec 32 := Scalar.muli v1214 c1_i32_1033
  let v1217 : BitVec 32 := Scalar.addi c0_i32_1034 v1216
  v1217.toNat
def k0_dev55 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1040 : BitVec 32 := 10#32
  let v1225 : BitVec 32 := Scalar.addi v2 c10_i32_1040
  let c16_i32_1041 : BitVec 32 := 16#32
  let v1226 : BitVec 32 := Scalar.remsi v1225 c16_i32_1041
  let c1_i32_1043 : BitVec 32 := 1#32
  let v1228 : BitVec 32 := Scalar.muli v1226 c1_i32_1043
  let v1229 : BitVec 32 := Scalar.addi c0_i32_1044 v1228
  v1229.toNat
def k0_dev56 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1050 : BitVec 32 := 11#32
  let v1237 : BitVec 32 := Scalar.addi v2 c11_i32_1050
  let c16_i32_1051 : BitVec 32 := 16#32
  let v1238 : BitVec 32 := Scalar.remsi v1237 c16_i32_1051
  let c1_i32_1053 : BitVec 32 := 1#32
  let v1240 : BitVec 32 := Scalar.muli v1238 c1_i32_1053
  let v1241 : BitVec 32 := Scalar.addi c0_i32_1054 v1240
  v1241.toNat
def k0_dev57 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1060 : BitVec 32 := 12#32
  let v1249 : BitVec 32 := Scalar.addi v2 c12_i32_1060
  let c16_i32_1061 : BitVec 32 := 16#32
  let v1250 : BitVec 32 := Scalar.remsi v1249 c16_i32_1061
  let c1_i32_1063 : BitVec 32 := 1#32
  let v1252 : BitVec 32 := Scalar.muli v1250 c1_i32_1063
  let v1253 : BitVec 32 := Scalar.addi c0_i32_1064 v1252
  v1253.toNat
def k0_dev58 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1070 : BitVec 32 := 13#32
  let v1261 : BitVec 32 := Scalar.addi v2 c13_i32_1070
  let c16_i32_1071 : BitVec 32 := 16#32
  let v1262 : BitVec 32 := Scalar.remsi v1261 c16_i32_1071
  let c1_i32_1073 : BitVec 32 := 1#32
  let v1264 : BitVec 32 := Scalar.muli v1262 c1_i32_1073
  let v1265 : BitVec 32 := Scalar.addi c0_i32_1074 v1264
  v1265.toNat
def k0_dev59 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1080 : BitVec 32 := 14#32
  let v1273 : BitVec 32 := Scalar.addi v2 c14_i32_1080
  let c16_i32_1081 : BitVec 32 := 16#32
  let v1274 : BitVec 32 := Scalar.remsi v1273 c16_i32_1081
  let c1_i32_1083 : BitVec 32 := 1#32
  let v1276 : BitVec 32 := Scalar.muli v1274 c1_i32_1083
  let v1277 : BitVec 32 := Scalar.addi c0_i32_1084 v1276
  v1277.toNat
def k0_dev60 (d0 : Dev nD) : Nat :=
  let c0_i32_1094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1090 : BitVec 32 := 15#32
  let v1285 : BitVec 32 := Scalar.addi v2 c15_i32_1090
  let c16_i32_1091 : BitVec 32 := 16#32
  let v1286 : BitVec 32 := Scalar.remsi v1285 c16_i32_1091
  let c1_i32_1093 : BitVec 32 := 1#32
  let v1288 : BitVec 32 := Scalar.muli v1286 c1_i32_1093
  let v1289 : BitVec 32 := Scalar.addi c0_i32_1094 v1288
  v1289.toNat
def k0_off11 (d0 : Dev nD) : Fin 3 → Nat :=
  let c0_1101 : Index := 0#32
  let c16_i32_1100 : BitVec 32 := 16#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1297 : BitVec 32 := Scalar.muli c16_i32_1100 v2
  let v1298 : Index := Scalar.indexCast v1297
  let c0_1102 : Index := 0#32
  ![0, v1298.toNat, 0]
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1301 : Index := Scalar.indexCast v2
  let c0_1103 : Index := 0#32
  let c0_1104 : Index := 0#32
  let c0_1105 : Index := 0#32
  ![v1301.toNat, 0, 0, 0]
def k0_off13 (d0 : Dev nD) (c1_i32_1106 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1305 : BitVec 32 := Scalar.subi v2 c1_i32_1106
  let c16_i32_1107 : BitVec 32 := 16#32
  let v1306 : BitVec 32 := Scalar.addi v1305 c16_i32_1107
  let c16_i32_1108 : BitVec 32 := 16#32
  let v1307 : BitVec 32 := Scalar.remsi v1306 c16_i32_1108
  let c0_i32_1111 : BitVec 32 := 0#32
  let c0_i32_1112 : BitVec 32 := 0#32
  let c0_i32_1113 : BitVec 32 := 0#32
  ![v1307.toNat, 0, 0, 0]
def k0_dev61 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1369 : BitVec 32 := 1#32
  let v1535 : BitVec 32 := Scalar.addi v2 c1_i32_1369
  let c16_i32_1370 : BitVec 32 := 16#32
  let v1536 : BitVec 32 := Scalar.remsi v1535 c16_i32_1370
  let c1_i32_1371 : BitVec 32 := 1#32
  let v1537 : BitVec 32 := Scalar.muli v1536 c1_i32_1371
  let v1538 : BitVec 32 := Scalar.addi c0_i32_1372 v1537
  v1538.toNat
def k0_dev62 (d0 : Dev nD) : Nat :=
  let c0_i32_1379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1376 : BitVec 32 := 2#32
  let v1545 : BitVec 32 := Scalar.addi v2 c2_i32_1376
  let c16_i32_1377 : BitVec 32 := 16#32
  let v1546 : BitVec 32 := Scalar.remsi v1545 c16_i32_1377
  let c1_i32_1378 : BitVec 32 := 1#32
  let v1547 : BitVec 32 := Scalar.muli v1546 c1_i32_1378
  let v1548 : BitVec 32 := Scalar.addi c0_i32_1379 v1547
  v1548.toNat
def k0_dev63 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1383 : BitVec 32 := 3#32
  let v1555 : BitVec 32 := Scalar.addi v2 c3_i32_1383
  let c16_i32_1384 : BitVec 32 := 16#32
  let v1556 : BitVec 32 := Scalar.remsi v1555 c16_i32_1384
  let c1_i32_1385 : BitVec 32 := 1#32
  let v1557 : BitVec 32 := Scalar.muli v1556 c1_i32_1385
  let v1558 : BitVec 32 := Scalar.addi c0_i32_1386 v1557
  v1558.toNat
def k0_dev64 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1390 : BitVec 32 := 4#32
  let v1565 : BitVec 32 := Scalar.addi v2 c4_i32_1390
  let c16_i32_1391 : BitVec 32 := 16#32
  let v1566 : BitVec 32 := Scalar.remsi v1565 c16_i32_1391
  let c1_i32_1392 : BitVec 32 := 1#32
  let v1567 : BitVec 32 := Scalar.muli v1566 c1_i32_1392
  let v1568 : BitVec 32 := Scalar.addi c0_i32_1393 v1567
  v1568.toNat
def k0_dev65 (d0 : Dev nD) : Nat :=
  let c0_i32_1400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1397 : BitVec 32 := 5#32
  let v1575 : BitVec 32 := Scalar.addi v2 c5_i32_1397
  let c16_i32_1398 : BitVec 32 := 16#32
  let v1576 : BitVec 32 := Scalar.remsi v1575 c16_i32_1398
  let c1_i32_1399 : BitVec 32 := 1#32
  let v1577 : BitVec 32 := Scalar.muli v1576 c1_i32_1399
  let v1578 : BitVec 32 := Scalar.addi c0_i32_1400 v1577
  v1578.toNat
def k0_dev66 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1404 : BitVec 32 := 6#32
  let v1585 : BitVec 32 := Scalar.addi v2 c6_i32_1404
  let c16_i32_1405 : BitVec 32 := 16#32
  let v1586 : BitVec 32 := Scalar.remsi v1585 c16_i32_1405
  let c1_i32_1406 : BitVec 32 := 1#32
  let v1587 : BitVec 32 := Scalar.muli v1586 c1_i32_1406
  let v1588 : BitVec 32 := Scalar.addi c0_i32_1407 v1587
  v1588.toNat
def k0_dev67 (d0 : Dev nD) : Nat :=
  let c0_i32_1414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1411 : BitVec 32 := 7#32
  let v1595 : BitVec 32 := Scalar.addi v2 c7_i32_1411
  let c16_i32_1412 : BitVec 32 := 16#32
  let v1596 : BitVec 32 := Scalar.remsi v1595 c16_i32_1412
  let c1_i32_1413 : BitVec 32 := 1#32
  let v1597 : BitVec 32 := Scalar.muli v1596 c1_i32_1413
  let v1598 : BitVec 32 := Scalar.addi c0_i32_1414 v1597
  v1598.toNat
def k0_dev68 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1418 : BitVec 32 := 8#32
  let v1605 : BitVec 32 := Scalar.addi v2 c8_i32_1418
  let c16_i32_1419 : BitVec 32 := 16#32
  let v1606 : BitVec 32 := Scalar.remsi v1605 c16_i32_1419
  let c1_i32_1420 : BitVec 32 := 1#32
  let v1607 : BitVec 32 := Scalar.muli v1606 c1_i32_1420
  let v1608 : BitVec 32 := Scalar.addi c0_i32_1421 v1607
  v1608.toNat
def k0_dev69 (d0 : Dev nD) : Nat :=
  let c0_i32_1428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1425 : BitVec 32 := 9#32
  let v1615 : BitVec 32 := Scalar.addi v2 c9_i32_1425
  let c16_i32_1426 : BitVec 32 := 16#32
  let v1616 : BitVec 32 := Scalar.remsi v1615 c16_i32_1426
  let c1_i32_1427 : BitVec 32 := 1#32
  let v1617 : BitVec 32 := Scalar.muli v1616 c1_i32_1427
  let v1618 : BitVec 32 := Scalar.addi c0_i32_1428 v1617
  v1618.toNat
def k0_dev70 (d0 : Dev nD) : Nat :=
  let c0_i32_1435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1432 : BitVec 32 := 10#32
  let v1625 : BitVec 32 := Scalar.addi v2 c10_i32_1432
  let c16_i32_1433 : BitVec 32 := 16#32
  let v1626 : BitVec 32 := Scalar.remsi v1625 c16_i32_1433
  let c1_i32_1434 : BitVec 32 := 1#32
  let v1627 : BitVec 32 := Scalar.muli v1626 c1_i32_1434
  let v1628 : BitVec 32 := Scalar.addi c0_i32_1435 v1627
  v1628.toNat
def k0_dev71 (d0 : Dev nD) : Nat :=
  let c0_i32_1442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1439 : BitVec 32 := 11#32
  let v1635 : BitVec 32 := Scalar.addi v2 c11_i32_1439
  let c16_i32_1440 : BitVec 32 := 16#32
  let v1636 : BitVec 32 := Scalar.remsi v1635 c16_i32_1440
  let c1_i32_1441 : BitVec 32 := 1#32
  let v1637 : BitVec 32 := Scalar.muli v1636 c1_i32_1441
  let v1638 : BitVec 32 := Scalar.addi c0_i32_1442 v1637
  v1638.toNat
def k0_dev72 (d0 : Dev nD) : Nat :=
  let c0_i32_1449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1446 : BitVec 32 := 12#32
  let v1645 : BitVec 32 := Scalar.addi v2 c12_i32_1446
  let c16_i32_1447 : BitVec 32 := 16#32
  let v1646 : BitVec 32 := Scalar.remsi v1645 c16_i32_1447
  let c1_i32_1448 : BitVec 32 := 1#32
  let v1647 : BitVec 32 := Scalar.muli v1646 c1_i32_1448
  let v1648 : BitVec 32 := Scalar.addi c0_i32_1449 v1647
  v1648.toNat
def k0_dev73 (d0 : Dev nD) : Nat :=
  let c0_i32_1456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1453 : BitVec 32 := 13#32
  let v1655 : BitVec 32 := Scalar.addi v2 c13_i32_1453
  let c16_i32_1454 : BitVec 32 := 16#32
  let v1656 : BitVec 32 := Scalar.remsi v1655 c16_i32_1454
  let c1_i32_1455 : BitVec 32 := 1#32
  let v1657 : BitVec 32 := Scalar.muli v1656 c1_i32_1455
  let v1658 : BitVec 32 := Scalar.addi c0_i32_1456 v1657
  v1658.toNat
def k0_dev74 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1460 : BitVec 32 := 14#32
  let v1665 : BitVec 32 := Scalar.addi v2 c14_i32_1460
  let c16_i32_1461 : BitVec 32 := 16#32
  let v1666 : BitVec 32 := Scalar.remsi v1665 c16_i32_1461
  let c1_i32_1462 : BitVec 32 := 1#32
  let v1667 : BitVec 32 := Scalar.muli v1666 c1_i32_1462
  let v1668 : BitVec 32 := Scalar.addi c0_i32_1463 v1667
  v1668.toNat
def k0_dev75 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1467 : BitVec 32 := 15#32
  let v1675 : BitVec 32 := Scalar.addi v2 c15_i32_1467
  let c16_i32_1468 : BitVec 32 := 16#32
  let v1676 : BitVec 32 := Scalar.remsi v1675 c16_i32_1468
  let c1_i32_1469 : BitVec 32 := 1#32
  let v1677 : BitVec 32 := Scalar.muli v1676 c1_i32_1469
  let v1678 : BitVec 32 := Scalar.addi c0_i32_1470 v1677
  v1678.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x4096 : Shape := ⟨2, ![512, 4096]⟩
abbrev S2x4096x64x64 : Shape := ⟨4, ![2, 4096, 64, 64]⟩
abbrev S4096x512 : Shape := ⟨2, ![4096, 512]⟩
abbrev S2x256x4096 : Shape := ⟨3, ![2, 256, 4096]⟩
abbrev S2x256x64x64 : Shape := ⟨4, ![2, 256, 64, 64]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S2x64x256x4096 : Shape := ⟨4, ![2, 64, 256, 4096]⟩
abbrev S1x1x256x4096 : Shape := ⟨4, ![1, 1, 256, 4096]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 132
  | .vmem => 0
  | .smem => 0
  | _ => 0

abbrev hbmTy0_0 (i : Nat) : BufTy := match i % 128 with
  | 0 => ⟨S2x256x512, .bf16⟩
  | 1 => ⟨S512x4096, .bf16⟩
  | 2 => ⟨S2x4096x64x64, .bf16⟩
  | 3 => ⟨S2x4096x64x64, .bf16⟩
  | 4 => ⟨S4096x512, .bf16⟩
  | 5 => ⟨S2x256x512, .f32⟩
  | 6 => ⟨S512x4096, .f32⟩
  | 7 => ⟨S2x4096x64x64, .f32⟩
  | 8 => ⟨S2x4096x64x64, .f32⟩
  | 9 => ⟨S4096x512, .f32⟩
  | 10 => ⟨S2x256x4096, .f32⟩
  | 11 => ⟨S2x256x4096, .bf16⟩
  | 12 => ⟨S2x256x4096, .f32⟩
  | 13 => ⟨S2x256x64x64, .f32⟩
  | 14 => ⟨S256, .i32⟩
  | 15 => ⟨S_, .i32⟩
  | 16 => ⟨S_, .i32⟩
  | 17 => ⟨S256, .i32⟩
  | 18 => ⟨S256, .i32⟩
  | 19 => ⟨S256, .i32⟩
  | 20 => ⟨S_, .i32⟩
  | 21 => ⟨S256, .i32⟩
  | 22 => ⟨S256, .i1⟩
  | 23 => ⟨S256, .i32⟩
  | 24 => ⟨S256, .i32⟩
  | 25 => ⟨S_, .i32⟩
  | 26 => ⟨S256, .i32⟩
  | 27 => ⟨S256, .i1⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S4096, .i32⟩
  | 35 => ⟨S_, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i1⟩
  | 43 => ⟨S4096, .i32⟩
  | 44 => ⟨S4096, .i32⟩
  | 45 => ⟨S_, .i32⟩
  | 46 => ⟨S4096, .i32⟩
  | 47 => ⟨S4096, .i1⟩
  | 48 => ⟨S4096, .i1⟩
  | 49 => ⟨S_, .i32⟩
  | 50 => ⟨S4096, .i32⟩
  | 51 => ⟨S4096, .i32⟩
  | 52 => ⟨S4096, .i32⟩
  | 53 => ⟨S1x4096, .i32⟩
  | 54 => ⟨S256x4096, .i32⟩
  | 55 => ⟨S256x4096, .i32⟩
  | 56 => ⟨S256x4096, .i1⟩
  | 57 => ⟨S_, .i32⟩
  | 58 => ⟨S1x4096, .i32⟩
  | 59 => ⟨S1x4096, .i1⟩
  | 60 => ⟨S256x4096, .i1⟩
  | 61 => ⟨S256x4096, .i1⟩
  | 62 => ⟨S256x4096, .i32⟩
  | 63 => ⟨S256x4096, .i32⟩
  | 64 => ⟨S256x4096, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S256x4096, .i32⟩
  | 72 => ⟨S256x4096, .i32⟩
  | 73 => ⟨S_, .i32⟩
  | 74 => ⟨S256x4096, .i32⟩
  | 75 => ⟨S256x4096, .i1⟩
  | 76 => ⟨S_, .i32⟩
  | 77 => ⟨S256x4096, .i32⟩
  | 78 => ⟨S256x4096, .i1⟩
  | 79 => ⟨S_, .i32⟩
  | 80 => ⟨S_, .i1⟩
  | 81 => ⟨S256x4096, .i1⟩
  | 82 => ⟨S256x4096, .i1⟩
  | 83 => ⟨S256x4096, .i1⟩
  | 84 => ⟨S256x4096, .i32⟩
  | 85 => ⟨S256x4096, .i32⟩
  | 86 => ⟨S256x4096, .i32⟩
  | 87 => ⟨S_, .i32⟩
  | 88 => ⟨S256x4096, .i32⟩
  | 89 => ⟨S256x4096, .i1⟩
  | 90 => ⟨S256x4096, .i1⟩
  | 91 => ⟨S2x64x256x4096, .f32⟩
  | 92 => ⟨S2x64x256x4096, .bf16⟩
  | 93 => ⟨S2x64x256x4096, .f32⟩
  | 94 => ⟨S_, .f32⟩
  | 95 => ⟨S2x64x256x4096, .f32⟩
  | 96 => ⟨S2x64x256x4096, .f32⟩
  | 97 => ⟨S1x1x256x4096, .i1⟩
  | 98 => ⟨S_, .f32⟩
  | 99 => ⟨S_, .f32⟩
  | 100 => ⟨S2x64x256x4096, .i1⟩
  | 101 => ⟨S2x64x256x4096, .f32⟩
  | 102 => ⟨S2x64x256x4096, .f32⟩
  | 103 => ⟨S_, .f32⟩
  | 104 => ⟨S2x64x256, .f32⟩
  | 105 => ⟨S2x64x256x1, .f32⟩
  | 106 => ⟨S2x64x256x4096, .f32⟩
  | 107 => ⟨S2x64x256x4096, .f32⟩
  | 108 => ⟨S2x64x256x4096, .f32⟩
  | 109 => ⟨S_, .i1⟩
  | 110 => ⟨S256, .i1⟩
  | 111 => ⟨S1x1x256x1, .i1⟩
  | 112 => ⟨S_, .f32⟩
  | 113 => ⟨S2x64x256, .f32⟩
  | 114 => ⟨S2x64x256x1, .f32⟩
  | 115 => ⟨S_, .f32⟩
  | 116 => ⟨S_, .f32⟩
  | 117 => ⟨S2x64x256x1, .i1⟩
  | 118 => ⟨S2x64x256x1, .f32⟩
  | 119 => ⟨S2x64x256x1, .f32⟩
  | 120 => ⟨S2x64x256x4096, .f32⟩
  | 121 => ⟨S2x64x256x4096, .f32⟩
  | 122 => ⟨S1x1x256x1, .i1⟩
  | 123 => ⟨S_, .f32⟩
  | 124 => ⟨S_, .f32⟩
  | 125 => ⟨S2x64x256x4096, .i1⟩
  | 126 => ⟨S2x64x256x4096, .f32⟩
  | 127 => ⟨S2x64x256x4096, .f32⟩
  | _ => ⟨S2x256x512, .bf16⟩

abbrev hbmTy0_1 (i : Nat) : BufTy := match i % 128 with
  | 0 => ⟨S2x64x64x256, .f32⟩
  | 1 => ⟨S2x256x64x64, .f32⟩
  | 2 => ⟨S2x256x4096, .f32⟩
  | 3 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v25 : Ref sig .tc := ⟨.hbm, 86, rfl⟩
abbrev main_c_3 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_4 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v35 : Ref sig .tc := ⟨.hbm, 102, rfl⟩
abbrev main_cst_5 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_6 : Ref sig .tc := ⟨.hbm, 109, rfl⟩
abbrev main_v41 : Ref sig .tc := ⟨.hbm, 110, rfl⟩
abbrev main_v42 : Ref sig .tc := ⟨.hbm, 111, rfl⟩
abbrev main_cst_7 : Ref sig .tc := ⟨.hbm, 112, rfl⟩
abbrev main_v43 : Ref sig .tc := ⟨.hbm, 113, rfl⟩
abbrev main_v44 : Ref sig .tc := ⟨.hbm, 114, rfl⟩
abbrev main_cst_8 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_cst_9 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩

abbrev nD : Nat := 1
abbrev τ : Topo := Topo.v7x

variable {F : FTy → Type} [FloatOps F]
-- ==== Proof.Loops.lean ====
/- The kernel's body as loops over its fifteen peers, and the proof that the printed body is that text. -/
module

public import proofs.«01_k».proof.Proof.Gen.KernelIdeal.Skeleton
public import Idealize.ShloMosaic.Lib.Pipeline.Regions

@[expose] public section

set_option synthInstance.maxSize 4096

noncomputable section

namespace Cert.KernelIdeal.Own

open Idealize.ShloMosaic Idealize.SL.Sem
open Cert.KernelIdeal Cert.KernelIdeal.Gen

variable {F : FTy → Type} [FloatOps F]

/-- The effects of a kernel body. -/
abbrev Eff (F : FTy → Type) [FloatOps F] : Type → Type := TpuEff nD τ sig (Elt F) Λ₀ .tc

/-- Run `f` at each index of a list, then the rest. -/
def seqL {E : Type → Type} {ι α : Type} (f : ι → Prog E PUnit) : List ι → Prog E α → Prog E α
  | [], rest => rest
  | i :: l, rest => f i >>= fun _ => seqL f l rest

/-- The fifteen peers in the order in which the kernel goes through them. -/
def rounds : List (Fin 15) := [0, 1, 2, 3, 4, 5, 6, 7, 8, 9, 10, 11, 12, 13, 14]

/-- The number of the peer `k` as the printed offsets take it. -/
abbrev rw32 (k : Fin 15) : BitVec 32 := BitVec.ofNat 32 (1 + k.val)

/-- The semaphore of the entry barrier. -/
abbrev barrierSem : Sem sig := (SemArray.scalar (sig.barrier 0 rfl) : Sems sig S_).sem

/-- The peer that round `k` of the entry barrier signals. -/
def sigDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩]

/-- The peer that round `k` of the key exchange sends to. -/
def kDev (d : Dev nD) : Fin 15 → Dev nD :=
  ![⟨k0_dev16 d, k0_dev16_lt d⟩, ⟨k0_dev18 d, k0_dev18_lt d⟩, ⟨k0_dev20 d, k0_dev20_lt d⟩, ⟨k0_dev22 d, k0_dev22_lt d⟩, ⟨k0_dev24 d, k0_dev24_lt d⟩, ⟨k0_dev26 d, k0_dev26_lt d⟩, ⟨k0_dev28 d, k0_dev28_lt d⟩, ⟨k0_dev30 d, k0_dev30_lt d⟩, ⟨k0_dev32 d, k0_dev32_lt d⟩, ⟨k0_dev34 d, k0_dev34_lt d⟩, ⟨k0_dev36 d, k0_dev36_lt d⟩, ⟨k0_dev38 d, k0_dev38_lt d⟩, ⟨k0_dev40 d, k0_dev40_lt d⟩, ⟨k0_dev42 d, k0_dev42_lt d⟩, ⟨k0_dev44 d, k0_dev44_lt d⟩]

/-- The peer that round `k` of the value exchange sends to. -/
def vDev (d : Dev nD) : Fin 15 → Dev nD :=
  ![⟨k0_dev17 d, k0_dev17_lt d⟩, ⟨k0_dev19 d, k0_dev19_lt d⟩, ⟨k0_dev21 d, k0_dev21_lt d⟩, ⟨k0_dev23 d, k0_dev23_lt d⟩, ⟨k0_dev25 d, k0_dev25_lt d⟩, ⟨k0_dev27 d, k0_dev27_lt d⟩, ⟨k0_dev29 d, k0_dev29_lt d⟩, ⟨k0_dev31 d, k0_dev31_lt d⟩, ⟨k0_dev33 d, k0_dev33_lt d⟩, ⟨k0_dev35 d, k0_dev35_lt d⟩, ⟨k0_dev37 d, k0_dev37_lt d⟩, ⟨k0_dev39 d, k0_dev39_lt d⟩, ⟨k0_dev41 d, k0_dev41_lt d⟩, ⟨k0_dev43 d, k0_dev43_lt d⟩, ⟨k0_dev45 d, k0_dev45_lt d⟩]

/-- The peer that round `k` of the exchange of partial results sends to. -/
def rsDev (d : Dev nD) : Fin 15 → Dev nD :=
  ![⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩]

/-- The peer that round `k` of the exchange of reduced rows sends to. -/
def agDev (d : Dev nD) : Fin 15 → Dev nD :=
  ![⟨k0_dev61 d, k0_dev61_lt d⟩, ⟨k0_dev62 d, k0_dev62_lt d⟩, ⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩, ⟨k0_dev69 d, k0_dev69_lt d⟩, ⟨k0_dev70 d, k0_dev70_lt d⟩, ⟨k0_dev71 d, k0_dev71_lt d⟩, ⟨k0_dev72 d, k0_dev72_lt d⟩, ⟨k0_dev73 d, k0_dev73_lt d⟩, ⟨k0_dev74 d, k0_dev74_lt d⟩, ⟨k0_dev75 d, k0_dev75_lt d⟩]

/-- The completion cell of a device's own copy to peer `k`. -/
abbrev outSem (a : DmaSems sig S16) (d : Dev nD) (k : Fin 15) : DmaSem sig :=
  ((a.slice (Rect.unit (s := S16) (k0_off1 d (rw32 k)) S1.size (k0_off1_inb d k))).squeeze S_ squeezes_S1_S_).sem

/-- The arrival cell that device `d`'s copies pay at their destination. -/
abbrev landSem (a : DmaSems sig S16) (d : Dev nD) : DmaSem sig :=
  ((a.slice (Rect.unit (s := S16) (k0_off2 d) S1.size (k0_off2_inb d))).squeeze S_ squeezes_S1_S_).sem

/-- The arrival cell of the copy from the peer `k` places before. -/
abbrev inSem (a : DmaSems sig S16) (d : Dev nD) (k : Fin 15) : DmaSem sig :=
  ((a.slice (Rect.unit (s := S16) (k0_off7 d (rw32 k)) S1.size (k0_off7_inb d k))).squeeze S_ squeezes_S1_S_).sem

/-- The columns of the keys (or values) that go to peer `k`. -/
abbrev peerCols (a : Memref sig .tc .vmem S2x256x4096 .bf16) (d : Dev nD) (k : Fin 15) : Memref sig .tc .vmem S2x256x256 .bf16 :=
  a.slice (Rect.unit (s := S2x256x4096) (k0_off4 d (rw32 k)) S2x256x256.size (k0_off4_inb d k)) (fun _ => rfl)

/-- The slot of the gathered keys (or values) that device `d` fills. -/
abbrev slotAt (a : Memref sig .tc .vmem S16x2x256x256 .bf16) (d : Dev nD) : Memref sig .tc .vmem S2x256x256 .bf16 :=
  (a.slice (Rect.unit (s := S16x2x256x256) (k0_off3 d) S1x2x256x256.size (k0_off3_inb d)) (fun _ => rfl)).squeeze S2x256x256 squeezes_S1x2x256x256_S2x256x256

/-- The slot that the peer `k` places before fills. -/
abbrev slotFrom (a : Memref sig .tc .vmem S16x2x256x256 .bf16) (d : Dev nD) (k : Fin 15) : Memref sig .tc .vmem S2x256x256 .bf16 :=
  (a.slice (Rect.unit (s := S16x2x256x256) (k0_off8 d (rw32 k)) S1x2x256x256.size (k0_off8_inb d k)) (fun _ => rfl)).squeeze S2x256x256 squeezes_S1x2x256x256_S2x256x256

/-- The rows of the partial result that go to peer `k`. -/
abbrev peerRows (a : Memref sig .tc .vmem S2x256x512 .f32) (d : Dev nD) (k : Fin 15) : Memref sig .tc .vmem S2x16x512 .f32 :=
  a.slice (Rect.unit (s := S2x256x512) (k0_off10 d (rw32 k)) S2x16x512.size (k0_off10_inb d k)) (fun _ => rfl)

/-- The slot of row chunks that device `d` fills. -/
abbrev chunkAt (a : Memref sig .tc .vmem S16x2x16x512 .f32) (d : Dev nD) : Memref sig .tc .vmem S2x16x512 .f32 :=
  (a.slice (Rect.unit (s := S16x2x16x512) (k0_off9 d) S1x2x16x512.size (k0_off9_inb d)) (fun _ => rfl)).squeeze S2x16x512 squeezes_S1x2x16x512_S2x16x512

/-- The slot of row chunks that the peer `k` places before fills. -/
abbrev chunkFrom (a : Memref sig .tc .vmem S16x2x16x512 .f32) (d : Dev nD) (k : Fin 15) : Memref sig .tc .vmem S2x16x512 .f32 :=
  (a.slice (Rect.unit (s := S16x2x16x512) (k0_off13 d (rw32 k)) S1x2x16x512.size (k0_off13_inb d k)) (fun _ => rfl)).squeeze S2x16x512 squeezes_S1x2x16x512_S2x16x512

/-- A device's own columns. -/
abbrev ownCols (d : Dev nD) : Rect S2x256x4096 := Rect.unit (s := S2x256x4096) (k0_off5 d) S2x256x256.size (k0_off5_inb d)

/-- A device's own slot. -/
abbrev ownSlot (d : Dev nD) : Rect S16x2x256x256 := Rect.unit (s := S16x2x256x256) (k0_off6 d) S1x2x256x256.size (k0_off6_inb d)

/-- A device's own rows. -/
abbrev ownRows (d : Dev nD) : Rect S2x256x512 := Rect.unit (s := S2x256x512) (k0_off11 d) S2x16x512.size (k0_off11_inb d)

/-- A device's own slot of row chunks. -/
abbrev ownChunk (d : Dev nD) : Rect S16x2x16x512 := Rect.unit (s := S16x2x16x512) (k0_off12 d) S1x2x16x512.size (k0_off12_inb d)

/-- Round `k` of the entry barrier: one unit to a peer. -/
def sigStep (d : Dev nD) (k : Fin 15) : Prog (Eff F) PUnit := semSignalWord (sigDev d k) barrierSem 1#32

/-- Round `k` of the key (or value) exchange: start the copy to a peer. -/
def kvSend (src : Memref sig .tc .vmem S2x256x4096 .bf16) (hsrc : src.IsWhole) (dst : Memref sig .tc .vmem S16x2x256x256 .bf16) (hdst : dst.IsWhole)
    (a b : DmaSems sig S16) (dv : Dev nD → Fin 15 → Dev nD) (d : Dev nD) (k : Fin 15) : Prog (Eff F) PUnit :=
  Prog.lift (.enqueueDma (peerCols src d k) (.remote (Dev.tc (dv d k)) (slotAt dst d) (.dma (outSem a d k))) (.dma (landSem b d)) (hsrc.wordExact_slice rfl _ (k0_off4_wordsbf16 d k)) ((hdst.wordExact_slice rfl _ (k0_off3_wordsbf16 d)).reshape _ _) ⟨⟨rfl, Or.inl rfl⟩, trivial⟩)

/-- Wait for the slot that the peer `k` places before fills. -/
def kvRecv (src : Memref sig .tc .vmem S2x256x4096 .bf16) (hsrc : src.IsWhole) (dst : Memref sig .tc .vmem S16x2x256x256 .bf16) (hdst : dst.IsWhole)
    (b : DmaSems sig S16) (d : Dev nD) (k : Fin 15) : Prog (Eff F) PUnit :=
  Prog.lift (.waitDma2 (inSem b d k) (src.slice (Rect.unit (s := S2x256x4096) ![0, 0, 0] S2x256x256.size inb_S2x256x4096_S2x256x256_0_0_0) (fun _ => rfl)) (slotFrom dst d k) (hsrc.wordExact_slice rfl _ wordsbf16_S2x256x4096_S2x256x256_0_0_0) ((hdst.wordExact_slice rfl _ (k0_off8_wordsbf16 d k)).reshape _ _))

/-- Wait for a device's own copy to peer `k` to have been read. -/
def kvDone (src : Memref sig .tc .vmem S2x256x4096 .bf16) (hsrc : src.IsWhole) (dst : Memref sig .tc .vmem S16x2x256x256 .bf16) (hdst : dst.IsWhole)
    (a : DmaSems sig S16) (d : Dev nD) (k : Fin 15) : Prog (Eff F) PUnit :=
  Prog.lift (.waitDma2 (outSem a d k) (slotAt dst d) (peerCols src d k) ((hdst.wordExact_slice rfl _ (k0_off3_wordsbf16 d)).reshape _ _) (hsrc.wordExact_slice rfl _ (k0_off4_wordsbf16 d k)))

/-- Start the copy of a peer's rows of the partial result. -/
def rsSend (src : Memref sig .tc .vmem S2x256x512 .f32) (dst : Memref sig .tc .vmem S16x2x16x512 .f32)
    (a b : DmaSems sig S16) (d : Dev nD) (k : Fin 15) : Prog (Eff F) PUnit :=
  Prog.lift (.enqueueDma (peerRows src d k) (.remote (Dev.tc (rsDev d k)) (chunkAt dst d) (.dma (outSem a d k))) (.dma (landSem b d)) (View.wordExact_bits rfl) ((View.wordExact_bits rfl).reshape _ _) ⟨⟨rfl, Or.inl rfl⟩, trivial⟩)

/-- Wait for a peer's rows. -/
def rsRecv (src : Memref sig .tc .vmem S2x256x512 .f32) (dst : Memref sig .tc .vmem S16x2x16x512 .f32)
    (b : DmaSems sig S16) (d : Dev nD) (k : Fin 15) : Prog (Eff F) PUnit :=
  Prog.lift (.waitDma2 (inSem b d k) (src.slice (Rect.unit (s := S2x256x512) ![0, 0, 0] S2x16x512.size inb_S2x256x512_S2x16x512_0_0_0) (fun _ => rfl)) (chunkFrom dst d k) (View.wordExact_bits rfl) ((View.wordExact_bits rfl).reshape _ _))

/-- Wait for a device's own copy of rows to have been read. -/
def rsDone (src : Memref sig .tc .vmem S2x256x512 .f32) (dst : Memref sig .tc .vmem S16x2x16x512 .f32)
    (a : DmaSems sig S16) (d : Dev nD) (k : Fin 15) : Prog (Eff F) PUnit :=
  Prog.lift (.waitDma2 (outSem a d k) (chunkAt dst d) (peerRows src d k) ((View.wordExact_bits rfl).reshape _ _) (View.wordExact_bits rfl))

/-- Start the copy of the reduced rows to a peer. -/
def agSend (src : Memref sig .tc .vmem S2x16x512 .f32) (hsrc : src.IsWhole) (dst : Memref sig .tc .vmem S16x2x16x512 .f32)
    (a b : DmaSems sig S16) (d : Dev nD) (k : Fin 15) : Prog (Eff F) PUnit :=
  Prog.lift (.enqueueDma src (.remote (Dev.tc (agDev d k)) (chunkAt dst d) (.dma (outSem a d k))) (.dma (landSem b d)) hsrc.wordExact ((View.wordExact_bits rfl).reshape _ _) ⟨⟨rfl, Or.inl rfl⟩, trivial⟩)

/-- Wait for a peer's reduced rows. -/
def agRecv (src : Memref sig .tc .vmem S2x16x512 .f32) (hsrc : src.IsWhole) (dst : Memref sig .tc .vmem S16x2x16x512 .f32)
    (b : DmaSems sig S16) (d : Dev nD) (k : Fin 15) : Prog (Eff F) PUnit :=
  Prog.lift (.waitDma2 (inSem b d k) src (chunkFrom dst d k) hsrc.wordExact ((View.wordExact_bits rfl).reshape _ _))

/-- Wait for a device's own copy of the reduced rows to have been read. -/
def agDone (src : Memref sig .tc .vmem S2x16x512 .f32) (hsrc : src.IsWhole) (dst : Memref sig .tc .vmem S16x2x16x512 .f32)
    (a : DmaSems sig S16) (d : Dev nD) (k : Fin 15) : Prog (Eff F) PUnit :=
  Prog.lift (.waitDma2 (outSem a d k) (chunkAt dst d) src ((View.wordExact_bits rfl).reshape _ _) hsrc.wordExact)

/-- Which pairs of a query and a key row the kernel keeps. -/
def keepMask : IVec S256x4096 1 :=
  k0_pay9 (k0_pay6 (iota .tc S256x4096 32 [0] iota_S256x4096_d0_w32) 64#32 k0_pay4 k0_pay5) k0_pay7
    (k0_pay8 (iota .tc S256x4096 32 [0] iota_S256x4096_d0_w32) 64#32 k0_pay4 k0_pay5) 0#32

/-- A device's partial result, from its inputs and the gathered keys and values of its four heads and the two batches. -/
def partialOut (x : Vec F S2x256x512 .bf16) (wq : Vec F S512x256 .bf16) (wo : Vec F S256x512 .bf16)
    (kk vv : Fin 8 → Vec F S16x1x256x64 .bf16) : FVec F S2x256x512 .f32 :=
  have q := k0_pay3 x wq
  have w := k0_pay10 wo
  have a0 := k0_pay14 q keepMask w k0_pay11 (k0_pay12 (kk 0)) (k0_pay13 (vv 0))
  have a2 := k0_pay17 q keepMask w a0 (k0_pay15 (vv 1)) (k0_pay16 q keepMask (kk 1)) (kk 2) (vv 2)
  have a3 := k0_pay18 q keepMask w a2 (kk 3) (vv 3)
  have b0 := k0_pay22 keepMask w k0_pay19 (k0_pay20 (vv 4)) (k0_pay21 q (kk 4)) (Scalar.ofBits .f32 0x3E000000#32)
  have b2 := k0_pay25 q keepMask w b0 (k0_pay23 (vv 5)) (k0_pay24 q keepMask (kk 5)) (kk 6) (vv 6)
  k0_pay27 q keepMask w a3 b2 (k0_pay26 (kk 7)) (vv 7)

/-- The kernel's body over its loops. -/
def loopBody (arg0 : Memref sig .tc .vmem S2x256x512 .bf16) (harg0 : arg0.IsWhole) (arg1 : Memref sig .tc .vmem S512x256 .bf16) (harg1 : arg1.IsWhole) (arg2 : Memref sig .tc .vmem S2x256x4096 .bf16) (harg2 : arg2.IsWhole) (arg3 : Memref sig .tc .vmem S2x256x4096 .bf16) (harg3 : arg3.IsWhole) (arg4 : Memref sig .tc .vmem S256x512 .bf16) (harg4 : arg4.IsWhole) (arg5 : Memref sig .tc .vmem S2x256x512 .f32) (harg5 : arg5.IsWhole) (arg6 : Memref sig .tc .vmem S16x2x256x256 .bf16) (harg6 : arg6.IsWhole) (arg7 : Memref sig .tc .vmem S16x2x256x256 .bf16) (harg7 : arg7.IsWhole) (arg8 : Memref sig .tc .vmem S2x256x512 .f32) (harg8 : arg8.IsWhole) (arg9 : Memref sig .tc .vmem S16x2x16x512 .f32) (harg9 : arg9.IsWhole) (arg10 : Memref sig .tc .vmem S2x16x512 .f32) (harg10 : arg10.IsWhole) (arg11 : Memref sig .tc .vmem S16x2x16x512 .f32) (harg11 : arg11.IsWhole) (arg12 : DmaSems sig S16) (arg13 : DmaSems sig S16) (arg14 : DmaSems sig S16) (arg15 : DmaSems sig S16) (arg16 : DmaSems sig S16) (arg17 : DmaSems sig S16) (arg18 : DmaSems sig S16) (arg19 : DmaSems sig S16) : Prog (Eff F) PUnit :=
  Prog.lift .deviceId >>= fun d =>
  seqL (sigStep d) rounds <|
  semWaitWord barrierSem 15#32 >>= fun _ =>
  seqL (fun k => kvSend arg2 harg2 arg6 harg6 arg12 arg13 kDev d k >>= fun _ =>
    kvSend arg3 harg3 arg7 harg7 arg14 arg15 vDev d k) rounds <|
  Prog.lift (.load arg2 (ownCols d).toLoadRect (View.loadsAt_vmem h_S2x256x256)) >>= fun kOwn =>
  Prog.lift (.load arg6 (ownSlot d).toLoadRect (View.loadsAt_vmem h_S1x2x256x256)) >>= fun _ =>
  Prog.lift (.store arg6 (ownSlot d) (k0_pay1 kOwn) Finset.univ (View.stores_vmem h_S1x2x256x256 (harg6.storeExact_slice rfl _ (k0_off6_packedbf16 d)) (fun _ => rfl)) (.inl rfl)) >>= fun _ =>
  Prog.lift (.load arg3 (ownCols d).toLoadRect (View.loadsAt_vmem h_S2x256x256)) >>= fun vOwn =>
  Prog.lift (.load arg7 (ownSlot d).toLoadRect (View.loadsAt_vmem h_S1x2x256x256)) >>= fun _ =>
  Prog.lift (.store arg7 (ownSlot d) (k0_pay2 vOwn) Finset.univ (View.stores_vmem h_S1x2x256x256 (harg7.storeExact_slice rfl _ (k0_off6_packedbf16 d)) (fun _ => rfl)) (.inl rfl)) >>= fun _ =>
  Prog.lift (.load arg0 (Rect.unit (s := S2x256x512) ![0, 0, 0] S2x256x512.size inb_S2x256x512_S2x256x512_0_0_0).toLoadRect (View.loadsAt_vmem h_S2x256x512)) >>= fun x =>
  Prog.lift (.load arg1 (Rect.unit (s := S512x256) ![0, 0] S512x256.size inb_S512x256_S512x256_0_0).toLoadRect (View.loadsAt_vmem h_S512x256)) >>= fun wq =>
  Prog.lift (.load arg4 (Rect.unit (s := S256x512) ![0, 0] S256x512.size inb_S256x512_S256x512_0_0).toLoadRect (View.loadsAt_vmem h_S256x512)) >>= fun wo =>
  seqL (fun k => kvRecv arg2 harg2 arg6 harg6 arg13 d k >>= fun _ =>
    kvRecv arg3 harg3 arg7 harg7 arg15 d k) rounds <|
  seqL (fun k => kvDone arg2 harg2 arg6 harg6 arg12 d k >>= fun _ =>
    kvDone arg3 harg3 arg7 harg7 arg14 d k) rounds <|
  Prog.lift (.load arg6 (Rect.unit (s := S16x2x256x256) ![0, 0, 0, 0] S16x1x256x64.size inb_S16x2x256x256_S16x1x256x64_0_0_0_0).toLoadRect (View.loadsAt_vmem h_S16x1x256x64)) >>= fun kk00 =>
  Prog.lift (.load arg7 (Rect.unit (s := S16x2x256x256) ![0, 0, 0, 0] S16x1x256x64.size inb_S16x2x256x256_S16x1x256x64_0_0_0_0).toLoadRect (View.loadsAt_vmem h_S16x1x256x64)) >>= fun vv00 =>
  Prog.lift (.load arg6 (Rect.unit (s := S16x2x256x256) ![0, 0, 0, 64] S16x1x256x64.size inb_S16x2x256x256_S16x1x256x64_0_0_0_64).toLoadRect (View.loadsAt_vmem h_S16x1x256x64)) >>= fun kk01 =>
  Prog.lift (.load arg7 (Rect.unit (s := S16x2x256x256) ![0, 0, 0, 64] S16x1x256x64.size inb_S16x2x256x256_S16x1x256x64_0_0_0_64).toLoadRect (View.loadsAt_vmem h_S16x1x256x64)) >>= fun vv01 =>
  Prog.lift (.load arg6 (Rect.unit (s := S16x2x256x256) ![0, 0, 0, 128] S16x1x256x64.size inb_S16x2x256x256_S16x1x256x64_0_0_0_128).toLoadRect (View.loadsAt_vmem h_S16x1x256x64)) >>= fun kk02 =>
  Prog.lift (.load arg7 (Rect.unit (s := S16x2x256x256) ![0, 0, 0, 128] S16x1x256x64.size inb_S16x2x256x256_S16x1x256x64_0_0_0_128).toLoadRect (View.loadsAt_vmem h_S16x1x256x64)) >>= fun vv02 =>
  Prog.lift (.load arg6 (Rect.unit (s := S16x2x256x256) ![0, 0, 0, 192] S16x1x256x64.size inb_S16x2x256x256_S16x1x256x64_0_0_0_192).toLoadRect (View.loadsAt_vmem h_S16x1x256x64)) >>= fun kk03 =>
  Prog.lift (.load arg7 (Rect.unit (s := S16x2x256x256) ![0, 0, 0, 192] S16x1x256x64.size inb_S16x2x256x256_S16x1x256x64_0_0_0_192).toLoadRect (View.loadsAt_vmem h_S16x1x256x64)) >>= fun vv03 =>
  Prog.lift (.load arg6 (Rect.unit (s := S16x2x256x256) ![0, 1, 0, 0] S16x1x256x64.size inb_S16x2x256x256_S16x1x256x64_0_1_0_0).toLoadRect (View.loadsAt_vmem h_S16x1x256x64)) >>= fun kk10 =>
  Prog.lift (.load arg7 (Rect.unit (s := S16x2x256x256) ![0, 1, 0, 0] S16x1x256x64.size inb_S16x2x256x256_S16x1x256x64_0_1_0_0).toLoadRect (View.loadsAt_vmem h_S16x1x256x64)) >>= fun vv10 =>
  Prog.lift (.load arg6 (Rect.unit (s := S16x2x256x256) ![0, 1, 0, 64] S16x1x256x64.size inb_S16x2x256x256_S16x1x256x64_0_1_0_64).toLoadRect (View.loadsAt_vmem h_S16x1x256x64)) >>= fun kk11 =>
  Prog.lift (.load arg7 (Rect.unit (s := S16x2x256x256) ![0, 1, 0, 64] S16x1x256x64.size inb_S16x2x256x256_S16x1x256x64_0_1_0_64).toLoadRect (View.loadsAt_vmem h_S16x1x256x64)) >>= fun vv11 =>
  Prog.lift (.load arg6 (Rect.unit (s := S16x2x256x256) ![0, 1, 0, 128] S16x1x256x64.size inb_S16x2x256x256_S16x1x256x64_0_1_0_128).toLoadRect (View.loadsAt_vmem h_S16x1x256x64)) >>= fun kk12 =>
  Prog.lift (.load arg7 (Rect.unit (s := S16x2x256x256) ![0, 1, 0, 128] S16x1x256x64.size inb_S16x2x256x256_S16x1x256x64_0_1_0_128).toLoadRect (View.loadsAt_vmem h_S16x1x256x64)) >>= fun vv12 =>
  Prog.lift (.load arg6 (Rect.unit (s := S16x2x256x256) ![0, 1, 0, 192] S16x1x256x64.size inb_S16x2x256x256_S16x1x256x64_0_1_0_192).toLoadRect (View.loadsAt_vmem h_S16x1x256x64)) >>= fun kk13 =>
  Prog.lift (.load arg7 (Rect.unit (s := S16x2x256x256) ![0, 1, 0, 192] S16x1x256x64.size inb_S16x2x256x256_S16x1x256x64_0_1_0_192).toLoadRect (View.loadsAt_vmem h_S16x1x256x64)) >>= fun vv13 =>
  Prog.lift (.load arg8 (Rect.unit (s := S2x256x512) ![0, 0, 0] S2x256x512.size inb_S2x256x512_S2x256x512_0_0_0).toLoadRect (View.loadsAt_vmem h_S2x256x512)) >>= fun _ =>
  Prog.lift (.store arg8 (Rect.unit (s := S2x256x512) ![0, 0, 0] S2x256x512.size inb_S2x256x512_S2x256x512_0_0_0) (partialOut x wq wo ![kk00, kk01, kk02, kk03, kk10, kk11, kk12, kk13] ![vv00, vv01, vv02, vv03, vv10, vv11, vv12, vv13]) Finset.univ (View.stores_vmem_bits_univ h_S2x256x512 rfl) (.inl rfl)) >>= fun _ =>
  seqL (rsSend arg8 arg9 arg16 arg17 d) rounds <|
  Prog.lift (.load arg8 (ownRows d).toLoadRect (View.loadsAt_vmem h_S2x16x512)) >>= fun chunk =>
  Prog.lift (.load arg9 (ownChunk d).toLoadRect (View.loadsAt_vmem h_S1x2x16x512)) >>= fun _ =>
  Prog.lift (.store arg9 (ownChunk d) (k0_pay28 chunk) Finset.univ (View.stores_vmem_bits_univ h_S1x2x16x512 rfl) (.inl rfl)) >>= fun _ =>
  seqL (rsRecv arg8 arg9 arg17 d) rounds <|
  seqL (rsDone arg8 arg9 arg16 d) rounds <|
  Prog.lift (.load arg9 (Rect.unit (s := S16x2x16x512) ![0, 0, 0, 0] S16x2x16x512.size inb_S16x2x16x512_S16x2x16x512_0_0_0_0).toLoadRect (View.loadsAt_vmem h_S16x2x16x512)) >>= fun chunks =>
  Prog.lift (.load arg10 (Rect.unit (s := S2x16x512) ![0, 0, 0] S2x16x512.size inb_S2x16x512_S2x16x512_0_0_0).toLoadRect (View.loadsAt_vmem h_S2x16x512)) >>= fun _ =>
  Prog.lift (.store arg10 (Rect.unit (s := S2x16x512) ![0, 0, 0] S2x16x512.size inb_S2x16x512_S2x16x512_0_0_0) (k0_pay30 chunks) Finset.univ (View.stores_vmem_bits_univ h_S2x16x512 rfl) (.inl rfl)) >>= fun _ =>
  seqL (agSend arg10 harg10 arg11 arg18 arg19 d) rounds <|
  Prog.lift (.load arg11 (ownChunk d).toLoadRect (View.loadsAt_vmem h_S1x2x16x512)) >>= fun _ =>
  Prog.lift (.store arg11 (ownChunk d) (k0_pay32 (k0_pay31 (k0_pay29 chunks))) Finset.univ (View.stores_vmem_bits_univ h_S1x2x16x512 rfl) (.inl rfl)) >>= fun _ =>
  seqL (agRecv arg10 harg10 arg11 arg19 d) rounds <|
  seqL (agDone arg10 harg10 arg11 arg18 d) rounds <|
  Prog.lift (.load arg11 (Rect.unit (s := S16x2x16x512) ![0, 0, 0, 0] S16x2x16x512.size inb_S16x2x16x512_S16x2x16x512_0_0_0_0).toLoadRect (View.loadsAt_vmem h_S16x2x16x512)) >>= fun gathered =>
  Prog.lift (.load arg5 (Rect.unit (s := S2x256x512) ![0, 0, 0] S2x256x512.size inb_S2x256x512_S2x256x512_0_0_0).toLoadRect (View.loadsAt_vmem h_S2x256x512)) >>= fun _ =>
  Prog.lift (.store arg5 (Rect.unit (s := S2x256x512) ![0, 0, 0] S2x256x512.size inb_S2x256x512_S2x256x512_0_0_0) (k0_pay33 gathered) Finset.univ (View.stores_vmem_bits_univ h_S2x256x512 rfl) (.inl rfl)) >>= fun _ =>
  pure ⟨⟩

set_option maxRecDepth 65536 in
/-- The printed body is the loops. -/
theorem body_eq_loops (arg0 : Memref sig .tc .vmem S2x256x512 .bf16) (harg0 : arg0.IsWhole) (arg1 : Memref sig .tc .vmem S512x256 .bf16) (harg1 : arg1.IsWhole) (arg2 : Memref sig .tc .vmem S2x256x4096 .bf16) (harg2 : arg2.IsWhole) (arg3 : Memref sig .tc .vmem S2x256x4096 .bf16) (harg3 : arg3.IsWhole) (arg4 : Memref sig .tc .vmem S256x512 .bf16) (harg4 : arg4.IsWhole) (arg5 : Memref sig .tc .vmem S2x256x512 .f32) (harg5 : arg5.IsWhole) (arg6 : Memref sig .tc .vmem S16x2x256x256 .bf16) (harg6 : arg6.IsWhole) (arg7 : Memref sig .tc .vmem S16x2x256x256 .bf16) (harg7 : arg7.IsWhole) (arg8 : Memref sig .tc .vmem S2x256x512 .f32) (harg8 : arg8.IsWhole) (arg9 : Memref sig .tc .vmem S16x2x16x512 .f32) (harg9 : arg9.IsWhole) (arg10 : Memref sig .tc .vmem S2x16x512 .f32) (harg10 : arg10.IsWhole) (arg11 : Memref sig .tc .vmem S16x2x16x512 .f32) (harg11 : arg11.IsWhole) (arg12 : DmaSems sig S16) (arg13 : DmaSems sig S16) (arg14 : DmaSems sig S16) (arg15 : DmaSems sig S16) (arg16 : DmaSems sig S16) (arg17 : DmaSems sig S16) (arg18 : DmaSems sig S16) (arg19 : DmaSems sig S16) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 = loopBody (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 := by
  chain_rfl

end Cert.KernelIdeal.Own

end
-- ==== Proof.Geometry.lean ====
/- The peers of a device, the cells of the exchanges, and the pieces the exchanged buffers are cut into. -/
module

public import proofs.«01_k».proof.Proof.Loops

@[expose] public section

set_option synthInstance.maxSize 4096

noncomputable section

namespace Cert.KernelIdeal.Own

open Idealize.ShloMosaic Idealize.SL.Sem
open Idealize.SL Idealize.SL.RA Idealize.SL.BI
open scoped Idealize.SL.BI
open Idealize.SL.BI.BIBase Idealize.SL.BI.Laws
open Cert.KernelIdeal Cert.KernelIdeal.Gen

/-! ## Peers -/

/-- The device `k + 1` places after. -/
def peer (c : Dev nD) (k : Fin 15) : Dev nD := ⟨(c.val + (k.val + 1)) % 16, Nat.mod_lt _ (by decide)⟩

/-- The device `k + 1` places before. -/
def prev (c : Dev nD) (k : Fin 15) : Dev nD := ⟨((c.val + 15) - k.val) % 16, Nat.mod_lt _ (by decide)⟩

theorem prev_peer (c : Dev nD) (k : Fin 15) : prev (peer c k) k = c := by revert c k; decide
theorem peer_prev (c : Dev nD) (k : Fin 15) : peer (prev c k) k = c := by revert c k; decide
theorem peer_ne (c : Dev nD) (k : Fin 15) : peer c k ≠ c := by revert c k; decide
theorem prev_ne (c : Dev nD) (k : Fin 15) : prev c k ≠ c := by revert c k; decide
theorem peer_inj (c : Dev nD) : Function.Injective (peer c) := by revert c; decide
theorem prev_inj (c : Dev nD) : Function.Injective (prev c) := by revert c; decide
theorem univ_peer (c : Dev nD) : (Finset.univ : Finset (Dev nD)).erase c = Finset.univ.map ⟨peer c, peer_inj c⟩ := by revert c; decide
theorem univ_prev (c : Dev nD) : (Finset.univ : Finset (Dev nD)).erase c = Finset.univ.map ⟨prev c, prev_inj c⟩ := by revert c; decide

/-- The devices other than `c` are its fifteen peers, counted forwards. -/
theorem bigSep_erase_peer {M : Type} [URA M] (c : Dev nD) (Φ : Dev nD → sProp M) :
    bigSep (Finset.univ.erase c) Φ = bigSep (Finset.univ : Finset (Fin 15)) fun k => Φ (peer c k) := by
  rw [univ_peer, BI.bigSep_map]; rfl

/-- The devices other than `c` are its fifteen peers, counted backwards. -/
theorem bigSep_erase_prev {M : Type} [URA M] (c : Dev nD) (Φ : Dev nD → sProp M) :
    bigSep (Finset.univ.erase c) Φ = bigSep (Finset.univ : Finset (Fin 15)) fun k => Φ (prev c k) := by
  rw [univ_prev, BI.bigSep_map]; rfl

/-- All devices are `c` and its peers, counted forwards. -/
theorem bigSep_peer {M : Type} [URA M] (c : Dev nD) (Φ : Dev nD → sProp M) :
    bigSep Finset.univ Φ = iprop(Φ c ∗ bigSep (Finset.univ : Finset (Fin 15)) fun k => Φ (peer c k)) := by
  rw [← bigSep_erase_peer]; exact bigSep_univ_at Φ c

/-- All devices are `c` and its peers, counted backwards. -/
theorem bigSep_prev {M : Type} [URA M] (c : Dev nD) (Φ : Dev nD → sProp M) :
    bigSep Finset.univ Φ = iprop(Φ c ∗ bigSep (Finset.univ : Finset (Fin 15)) fun k => Φ (prev c k)) := by
  rw [← bigSep_erase_prev]; exact bigSep_univ_at Φ c

theorem sigDev_eq (d : Dev nD) (k : Fin 15) : sigDev d k = peer d k := by
  refine Fin.ext ?_
  fin_cases k
  · exact k0_dev1_eq d
  · exact k0_dev2_eq d
  · exact k0_dev3_eq d
  · exact k0_dev4_eq d
  · exact k0_dev5_eq d
  · exact k0_dev6_eq d
  · exact k0_dev7_eq d
  · exact k0_dev8_eq d
  · exact k0_dev9_eq d
  · exact k0_dev10_eq d
  · exact k0_dev11_eq d
  · exact k0_dev12_eq d
  · exact k0_dev13_eq d
  · exact k0_dev14_eq d
  · exact k0_dev15_eq d

theorem kDev_eq (d : Dev nD) (k : Fin 15) : kDev d k = peer d k := by
  refine Fin.ext ?_
  fin_cases k
  · exact k0_dev16_eq d
  · exact k0_dev18_eq d
  · exact k0_dev20_eq d
  · exact k0_dev22_eq d
  · exact k0_dev24_eq d
  · exact k0_dev26_eq d
  · exact k0_dev28_eq d
  · exact k0_dev30_eq d
  · exact k0_dev32_eq d
  · exact k0_dev34_eq d
  · exact k0_dev36_eq d
  · exact k0_dev38_eq d
  · exact k0_dev40_eq d
  · exact k0_dev42_eq d
  · exact k0_dev44_eq d

theorem vDev_eq (d : Dev nD) (k : Fin 15) : vDev d k = peer d k := by
  refine Fin.ext ?_
  fin_cases k
  · exact k0_dev17_eq d
  · exact k0_dev19_eq d
  · exact k0_dev21_eq d
  · exact k0_dev23_eq d
  · exact k0_dev25_eq d
  · exact k0_dev27_eq d
  · exact k0_dev29_eq d
  · exact k0_dev31_eq d
  · exact k0_dev33_eq d
  · exact k0_dev35_eq d
  · exact k0_dev37_eq d
  · exact k0_dev39_eq d
  · exact k0_dev41_eq d
  · exact k0_dev43_eq d
  · exact k0_dev45_eq d

theorem rsDev_eq (d : Dev nD) (k : Fin 15) : rsDev d k = peer d k := by
  refine Fin.ext ?_
  fin_cases k
  · exact k0_dev46_eq d
  · exact k0_dev47_eq d
  · exact k0_dev48_eq d
  · exact k0_dev49_eq d
  · exact k0_dev50_eq d
  · exact k0_dev51_eq d
  · exact k0_dev52_eq d
  · exact k0_dev53_eq d
  · exact k0_dev54_eq d
  · exact k0_dev55_eq d
  · exact k0_dev56_eq d
  · exact k0_dev57_eq d
  · exact k0_dev58_eq d
  · exact k0_dev59_eq d
  · exact k0_dev60_eq d

theorem agDev_eq (d : Dev nD) (k : Fin 15) : agDev d k = peer d k := by
  refine Fin.ext ?_
  fin_cases k
  · exact k0_dev61_eq d
  · exact k0_dev62_eq d
  · exact k0_dev63_eq d
  · exact k0_dev64_eq d
  · exact k0_dev65_eq d
  · exact k0_dev66_eq d
  · exact k0_dev67_eq d
  · exact k0_dev68_eq d
  · exact k0_dev69_eq d
  · exact k0_dev70_eq d
  · exact k0_dev71_eq d
  · exact k0_dev72_eq d
  · exact k0_dev73_eq d
  · exact k0_dev74_eq d
  · exact k0_dev75_eq d

/-! ## Cells -/

/-- Cell `i` of the exchange's semaphore array `a`. -/
def dsem (a : Fin 8) (i : Fin 16) : DmaSem sig := ⟨6 + 16 * a.val + i.val, by have := a.isLt; have := i.isLt; show _ < 134; omega⟩

/-- The eight semaphore arrays of the exchanges. -/
def arr (a : Fin 8) : DmaSems sig S16 :=
  SemArray.consecutive (6 + 16 * a.val) S16 (by have := a.isLt; have : S16.numel = 16 := rfl; show _ ≤ 134; omega)

theorem arr_at (a : Fin 8) (i : Fin 16) (off : Fin S16.rank → ℕ) (h : off = ![i.val]) (p) :
    (((arr a).slice (Rect.unit (s := S16) off S1.size p)).squeeze S_ squeezes_S1_S_).sem = dsem a i := by
  subst h
  revert a i
  decide +kernel

theorem outSem_eq (a : Fin 8) (d : Dev nD) (k : Fin 15) : outSem (arr a) d k = dsem a (peer d k) :=
  arr_at a _ _ ((k0_off1_eq d k).trans (by unfold peer; simp only [Nat.add_assoc])) _
theorem landSem_eq (a : Fin 8) (d : Dev nD) : landSem (arr a) d = dsem a d :=
  arr_at a _ _ (k0_off2_eq d) _
theorem inSem_eq (a : Fin 8) (d : Dev nD) (k : Fin 15) : inSem (arr a) d k = dsem a (prev d k) :=
  arr_at a _ _ (k0_off7_eq d k) _

/-- Which exchange cell a DMA semaphore is, if it is one. -/
def decode (j : DmaSem sig) : Option (Fin 8 × Fin 16) :=
  if h : 6 ≤ j.val then some (⟨(j.val - 6) / 16, by have h2 : j.val < 134 := j.isLt; omega⟩, ⟨(j.val - 6) % 16, Nat.mod_lt _ (by decide)⟩) else none

theorem decode_dsem (a : Fin 8) (i : Fin 16) : decode (dsem a i) = some (a, i) := by revert a i; decide +kernel

end Cert.KernelIdeal.Own

end
-- ==== Proof.Pieces.lean ====
/- The pieces the exchanged buffers are cut into, and what the exchanges leave in them. -/
module

public import proofs.«01_k».proof.Proof.Geometry
public import Idealize.ShloMosaic.Lib.ShareLeaves

@[expose] public section

set_option synthInstance.maxSize 4096

noncomputable section

namespace Cert.KernelIdeal.Own

open Idealize.ShloMosaic Idealize.SL.Sem
open Idealize.SL Idealize.SL.RA Idealize.SL.BI
open scoped Idealize.SL.BI
open Idealize.SL.BI.BIBase Idealize.SL.BI.Laws
open Cert.KernelIdeal Cert.KernelIdeal.Gen

/-! ## Sets -/

/-- Slot `i` of the gathered keys or values. -/
def slotRect (i : Fin 16) : Rect S16x2x256x256 := Rect.unit (s := S16x2x256x256) ![i.val, 0, 0, 0] S1x2x256x256.size (by revert i; decide)
/-- The columns of the keys or values that go to device `i`. -/
def colRect (i : Fin 16) : Rect S2x256x4096 := Rect.unit (s := S2x256x4096) ![0, 0, 256 * i.val] S2x256x256.size (by revert i; decide)
/-- The rows of the partial result that device `i` sums. -/
def rowRect (i : Fin 16) : Rect S2x256x512 := Rect.unit (s := S2x256x512) ![0, 16 * i.val, 0] S2x16x512.size (by revert i; decide)
/-- Slot `i` of the row chunks. -/
def chunkRect (i : Fin 16) : Rect S16x2x16x512 := Rect.unit (s := S16x2x16x512) ![i.val, 0, 0, 0] S1x2x16x512.size (by revert i; decide)

theorem mem_slot (i : Fin 16) (x : S16x2x256x256.Idx) : x ∈ (slotRect i).set ↔ x 0 = i := by
  rw [slotRect, Rect.mem_set_unit]
  constructor
  · intro h
    have h0 := h 0
    simp only [Matrix.cons_val_zero] at h0
    exact Fin.ext (by show (x 0 : ℕ) = i.val; have : (S1x2x256x256.size 0) = 1 := rfl; omega)
  · rintro rfl a
    fin_cases a
    · exact ⟨le_rfl, Nat.lt_succ_self _⟩
    · exact ⟨Nat.zero_le _, (Nat.zero_add _).symm ▸ (x 1).isLt⟩
    · exact ⟨Nat.zero_le _, (Nat.zero_add _).symm ▸ (x 2).isLt⟩
    · exact ⟨Nat.zero_le _, (Nat.zero_add _).symm ▸ (x 3).isLt⟩

theorem mem_chunk (i : Fin 16) (x : S16x2x16x512.Idx) : x ∈ (chunkRect i).set ↔ x 0 = i := by
  rw [chunkRect, Rect.mem_set_unit]
  constructor
  · intro h
    have h0 := h 0
    simp only [Matrix.cons_val_zero] at h0
    exact Fin.ext (by show (x 0 : ℕ) = i.val; have : (S1x2x16x512.size 0) = 1 := rfl; omega)
  · rintro rfl a
    fin_cases a
    · exact ⟨le_rfl, Nat.lt_succ_self _⟩
    · exact ⟨Nat.zero_le _, (Nat.zero_add _).symm ▸ (x 1).isLt⟩
    · exact ⟨Nat.zero_le _, (Nat.zero_add _).symm ▸ (x 2).isLt⟩
    · exact ⟨Nat.zero_le _, (Nat.zero_add _).symm ▸ (x 3).isLt⟩

/-- Which device's columns an element of the keys lies in. -/
def colKey (x : S2x256x4096.Idx) : Fin 16 := ⟨(x 2 : ℕ) / 256, by have h : (x 2 : ℕ) < 4096 := (x 2).isLt; omega⟩
/-- Which device's rows an element of the partial result lies in. -/
def rowKey (x : S2x256x512.Idx) : Fin 16 := ⟨(x 1 : ℕ) / 16, by have h : (x 1 : ℕ) < 256 := (x 1).isLt; omega⟩

theorem mem_col (i : Fin 16) (x : S2x256x4096.Idx) : x ∈ (colRect i).set ↔ colKey x = i := by
  rw [colRect, Rect.mem_set_unit]
  constructor
  · intro h
    have h2 : 256 * i.val ≤ (x 2 : ℕ) ∧ (x 2 : ℕ) < 256 * i.val + 256 := h 2
    exact Fin.ext (by show (x 2 : ℕ) / 256 = i.val; omega)
  · rintro rfl a
    fin_cases a
    · exact ⟨Nat.zero_le _, (Nat.zero_add _).symm ▸ (x 0).isLt⟩
    · exact ⟨Nat.zero_le _, (Nat.zero_add _).symm ▸ (x 1).isLt⟩
    · show 256 * ((x 2 : ℕ) / 256) ≤ (x 2 : ℕ) ∧ (x 2 : ℕ) < 256 * ((x 2 : ℕ) / 256) + 256
      omega

theorem mem_row (i : Fin 16) (x : S2x256x512.Idx) : x ∈ (rowRect i).set ↔ rowKey x = i := by
  rw [rowRect, Rect.mem_set_unit]
  constructor
  · intro h
    have h1 : 16 * i.val ≤ (x 1 : ℕ) ∧ (x 1 : ℕ) < 16 * i.val + 16 := h 1
    exact Fin.ext (by show (x 1 : ℕ) / 16 = i.val; omega)
  · rintro rfl a
    fin_cases a
    · exact ⟨Nat.zero_le _, (Nat.zero_add _).symm ▸ (x 0).isLt⟩
    · show 16 * ((x 1 : ℕ) / 16) ≤ (x 1 : ℕ) ∧ (x 1 : ℕ) < 16 * ((x 1 : ℕ) / 16) + 16
      omega
    · exact ⟨Nat.zero_le _, (Nat.zero_add _).symm ▸ (x 2).isLt⟩

/-- Sets told apart by a key are disjoint. -/
theorem keyed_disjoint {T : Type} [DecidableEq T] (K : Fin 16 → Finset T) (key : T → Fin 16) (h : ∀ i x, x ∈ K i ↔ key x = i) :
    ∀ t ∈ (Finset.univ : Finset (Fin 16)), ∀ t' ∈ (Finset.univ : Finset (Fin 16)), t ≠ t' → Disjoint (K t) (K t') :=
  fun t _ t' _ hne => Finset.disjoint_left.mpr fun x hx hx' => hne (((h t x).mp hx).symm.trans ((h t' x).mp hx'))

/-- Sets told apart by a key of every element make up everything. -/
theorem keyed_univ {T : Type} [Fintype T] [DecidableEq T] (K : Fin 16 → Finset T) (key : T → Fin 16) (h : ∀ i x, x ∈ K i ↔ key x = i) :
    (Finset.univ : Finset (Fin 16)).biUnion K = Finset.univ :=
  Finset.eq_univ_iff_forall.mpr fun x => Finset.mem_biUnion.mpr ⟨key x, Finset.mem_univ _, (h _ x).mpr rfl⟩

/-! ## Views -/

theorem peerCols_eq (d : Dev nD) (k : Fin 15) :
    Rect.unit (s := S2x256x4096) (k0_off4 d (rw32 k)) S2x256x256.size (k0_off4_inb d k) = colRect (peer d k) :=
  Rect.unit_congr ((k0_off4_eq d k).trans (by unfold peer; simp only [Nat.add_assoc])) _ _
theorem ownCols_eq (d : Dev nD) : ownCols d = colRect d := Rect.unit_congr (k0_off5_eq d) _ _
theorem slotAt_eq (d : Dev nD) :
    Rect.unit (s := S16x2x256x256) (k0_off3 d) S1x2x256x256.size (k0_off3_inb d) = slotRect d :=
  Rect.unit_congr (k0_off3_eq d) _ _
theorem slotFrom_eq (d : Dev nD) (k : Fin 15) :
    Rect.unit (s := S16x2x256x256) (k0_off8 d (rw32 k)) S1x2x256x256.size (k0_off8_inb d k) = slotRect (prev d k) :=
  Rect.unit_congr (k0_off8_eq d k) _ _
theorem ownSlot_eq (d : Dev nD) : ownSlot d = slotRect d := Rect.unit_congr (k0_off6_eq d) _ _
theorem peerRows_eq (d : Dev nD) (k : Fin 15) :
    Rect.unit (s := S2x256x512) (k0_off10 d (rw32 k)) S2x16x512.size (k0_off10_inb d k) = rowRect (peer d k) :=
  Rect.unit_congr ((k0_off10_eq d k).trans (by unfold peer; simp only [Nat.add_assoc])) _ _
theorem ownRows_eq (d : Dev nD) : ownRows d = rowRect d := Rect.unit_congr (k0_off11_eq d) _ _
theorem chunkAt_eq (d : Dev nD) :
    Rect.unit (s := S16x2x16x512) (k0_off9 d) S1x2x16x512.size (k0_off9_inb d) = chunkRect d :=
  Rect.unit_congr (k0_off9_eq d) _ _
theorem chunkFrom_eq (d : Dev nD) (k : Fin 15) :
    Rect.unit (s := S16x2x16x512) (k0_off13 d (rw32 k)) S1x2x16x512.size (k0_off13_inb d k) = chunkRect (prev d k) :=
  Rect.unit_congr (k0_off13_eq d k) _ _
theorem ownChunk_eq (d : Dev nD) : ownChunk d = chunkRect d := Rect.unit_congr (k0_off12_eq d) _ _

/-! ## Contents -/

/-- An index of the gathered keys without its slot. -/
def tailK (x : S16x2x256x256.Idx) : S2x256x256.Idx := fun a => x a.succ
/-- An index of the row chunks without its slot. -/
def tailR (x : S16x2x16x512.Idx) : S2x16x512.Idx := fun a => x a.succ

theorem slot_head (d : Fin 16) (z : S1x2x256x256.Idx) : (slotRect d).emb z 0 = d := by
  refine Fin.ext ?_
  have h : (z 0 : ℕ) < 1 := (z 0).isLt
  show d.val + 1 * (z 0 : ℕ) = d.val
  omega
theorem slot_tail (d : Fin 16) (h : S2x256x256.numel = S1x2x256x256.numel) (y : S2x256x256.Idx) :
    tailK ((slotRect d).emb (Shape.reshapeEquiv h y)) = y := by
  rw [show Shape.reshapeEquiv h y = _ from Shape.reshapeEquiv_cons_one h y]
  funext a
  refine Fin.ext ?_
  fin_cases a
  · show 0 + 1 * (y 0 : ℕ) = y 0; omega
  · show 0 + 1 * (y 1 : ℕ) = y 1; omega
  · show 0 + 1 * (y 2 : ℕ) = y 2; omega
theorem chunk_head (d : Fin 16) (z : S1x2x16x512.Idx) : (chunkRect d).emb z 0 = d := by
  refine Fin.ext ?_
  have h : (z 0 : ℕ) < 1 := (z 0).isLt
  show d.val + 1 * (z 0 : ℕ) = d.val
  omega
theorem chunk_tail (d : Fin 16) (h : S2x16x512.numel = S1x2x16x512.numel) (y : S2x16x512.Idx) :
    tailR ((chunkRect d).emb (Shape.reshapeEquiv h y)) = y := by
  rw [show Shape.reshapeEquiv h y = _ from Shape.reshapeEquiv_cons_one h y]
  funext a
  refine Fin.ext ?_
  fin_cases a
  · show 0 + 1 * (y 0 : ℕ) = y 0; omega
  · show 0 + 1 * (y 1 : ℕ) = y 1; omega
  · show 0 + 1 * (y 2 : ℕ) = y 2; omega

variable {F : FTy → Type} [FloatOps F]

/-- The values of the kernel's operands on every device. -/
structure Inputs (F : FTy → Type) where
  /-- The hidden states. -/
  x : Dev nD → Vec F S2x256x512 .bf16
  /-- The columns of the query weights. -/
  wq : Dev nD → Vec F S512x256 .bf16
  /-- The rows of the keys. -/
  k : Dev nD → Vec F S2x256x4096 .bf16
  /-- The rows of the values. -/
  v : Dev nD → Vec F S2x256x4096 .bf16
  /-- The rows of the output weights. -/
  wo : Dev nD → Vec F S256x512 .bf16

variable (I : Inputs F)

/-- The gathered keys or values of device `c`: slot `i` is device `i`'s rows at device `c`'s columns. -/
def gath (A : Dev nD → Vec F S2x256x4096 .bf16) (c : Dev nD) : Vec F S16x2x256x256 .bf16 :=
  fun x => A (x 0) ((colRect c).emb (tailK x))

/-- One batch's head of the gathered keys or values. -/
def headRect (j : Fin 8) : Rect S16x2x256x256 :=
  Rect.unit (s := S16x2x256x256) ![0, j.val / 4, 0, 64 * (j.val % 4)] S16x1x256x64.size (by revert j; decide)

/-- One batch's head of gathered contents. -/
def head (g : Vec F S16x2x256x256 .bf16) (j : Fin 8) : Vec F S16x1x256x64 .bf16 := fun y => g ((headRect j).emb y)

/-- Device `c`'s partial result. -/
def part (c : Dev nD) : FVec F S2x256x512 .f32 :=
  partialOut (I.x c) (I.wq c) (I.wo c) (head (gath I.k c)) (head (gath I.v c))

/-- Row chunks: slot `i` is device `i`'s part at device `c`'s rows. -/
def spread (A : Dev nD → Vec F S2x256x512 .f32) (c : Dev nD) : Vec F S16x2x16x512 .f32 := fun x => A (x 0) ((rowRect c).emb (tailR x))

/-- Row chunks: slot `i` is device `i`'s chunk. -/
def collect (A : Dev nD → Vec F S2x16x512 .f32) : Vec F S16x2x16x512 .f32 := fun x => A (x 0) (tailR x)

/-- What device `c` has after the exchange of partial results: slot `i` is device `i`'s partial result at device `c`'s rows. -/
def chunks (c : Dev nD) : Vec F S16x2x16x512 .f32 := spread (part I) c

/-- The sum of the partial results at device `c`'s rows. -/
def reduced (c : Dev nD) : Vec F S2x16x512 .f32 := k0_pay30 (chunks I c)

/-- What every device has after the exchange of the sums. -/
def gathered : Vec F S16x2x16x512 .f32 := collect (reduced I)

/-- The result. -/
def result : FVec F S2x256x512 .f32 := k0_pay33 (gathered I)

end Cert.KernelIdeal.Own

end
-- ==== Proof.Protocol.lean ====
/- The exchanges' cells: who pays what into which cell, what a device owes, and in which order the cells are waited for. -/
module

public import proofs.«01_k».proof.Proof.Pieces
public import Idealize.ShloMosaic.Lib.Rounds.Family
public import Idealize.ShloMosaic.Lib.Pipeline.RegionTalk

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

/-- The protocol's copy of the rounds library's algebra: a duty is named by a device. -/
abbrev UB : Type := URounds (GSem nD τ sig) (Dev nD)
/-- The pipeline library's algebra and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- Device `c`'s cell of the entry barrier. -/
abbrev bar (c : Dev nD) : GSem nD τ sig := ((c : Thread nD τ), .reg barrierSem)
/-- Device `c`'s cell `i` of the exchange's semaphore array `a`. -/
abbrev cell (a : Fin 8) (c i : Dev nD) : GSem nD τ sig := ((c : Thread nD τ), .dma (dsem a i))

/-- A points-to of a device's buffer on a set. -/
abbrev pts (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

variable (I : Inputs F)

/-- What is paid into cell `i` of array `a` on device `c`: the source piece back, or the piece that has landed. -/
def pay (a : Fin 8) (c i : Dev nD) : sProp 𝕄 :=
  match a with
  | 0 => pts c cc0_stg2_0 (colRect i).set fullShare (I.k c)
  | 1 => pts c cc0_scratch0 (slotRect i).set fullShare (gath I.k c)
  | 2 => pts c cc0_stg3_0 (colRect i).set fullShare (I.v c)
  | 3 => pts c cc0_scratch1 (slotRect i).set fullShare (gath I.v c)
  | 4 => pts c cc0_scratch2 (rowRect i).set fullShare (part I c)
  | 5 => pts c cc0_scratch3 (chunkRect i).set fullShare (chunks I c)
  | 6 => pts c cc0_scratch4 Finset.univ (ShareLeaves.leaf 4 fullShare i) (reduced I c)
  | 7 => pts c cc0_scratch5 (chunkRect i).set fullShare (gathered I)

/-- The four slots of device `p` that device `c` fills. -/
def landing (p c : Dev nD) : sProp 𝕄 :=
  iprop((∃ f, pts (F := F) p cc0_scratch0 (slotRect c).set fullShare f) ∗ (∃ f, pts (F := F) p cc0_scratch1 (slotRect c).set fullShare f)
    ∗ (∃ f, pts (F := F) p cc0_scratch3 (chunkRect c).set fullShare f) ∗ (∃ f, pts (F := F) p cc0_scratch5 (chunkRect c).set fullShare f))

/-- That the four cells of device `p` that device `c`'s copies pay are open. -/
def ready (p c : Dev nD) : sProp 𝕄 :=
  iprop(reached (ER (F := F)) (cell 1 p c) 0 ∗ reached (ER (F := F)) (cell 3 p c) 0
    ∗ reached (ER (F := F)) (cell 5 p c) 0 ∗ reached (ER (F := F)) (cell 7 p c) 0)

instance ready_persistent (p c : Dev nD) : BI.Persistent (ready (F := F) p c) := by unfold ready; infer_instance

/-- What device `p` pays into device `c`'s barrier cell. -/
def barPay (c p : Dev nD) : sProp 𝕄 := iprop(landing (F := F) p c ∗ ready (F := F) p c)

/-- The number of words a piece of the exchange `a` credits. -/
def words (a : Fin 8) : ℕ :=
  if a.val < 4 then (slotAt (Memref.whole cc0_scratch0) 0).view.dmaCredit
  else (chunkAt (Memref.whole cc0_scratch3) 0).view.dmaCredit

theorem words_pos (a : Fin 8) : 0 < words a := by
  unfold words
  split
  · exact View.dmaCredit_pos _ (by decide)
  · exact View.dmaCredit_pos _ (by decide)

/-- One round: every other device pays a unit into a barrier cell, and one copy pays each exchange cell that is not a device's own. -/
def sched : Rounds.Schedule (GSem nD τ sig) (Dev nD) 𝕄 where
  duties g r := if r = 0 ∧ g.1.2 = .tc then
      (match g.2 with
        | .reg _ => Finset.univ.erase g.1.1
        | .dma j => match decode j with
          | some (_, i) => if i = g.1.1 then ∅ else {0}
          | none => ∅) else ∅
  unitless _ := False
  amount g _ _ := match g.2 with
    | .reg _ => 1
    | .dma j => match decode j with
      | some (a, _) => words a
      | none => 1
  payload g _ d := match g.2 with
    | .reg _ => barPay g.1.1 d
    | .dma j => match decode j with
      | some (a, i) => pay I a g.1.1 i
      | none => iprop(emp)
  amount_pos g _ _ _ := by
    split
    · exact Nat.one_pos
    · split
      · exact words_pos _
      · exact Nat.one_pos

instance pay_storable (a : Fin 8) (c i : Dev nD) : BI.Storable (upEmb : UEmb _ 𝕄) (pay I a c i) := by
  unfold pay
  split <;> infer_instance

instance sched_storable (g : GSem nD τ sig) (r : ℕ) (d : Dev nD) : BI.Storable (upEmb : UEmb _ 𝕄) ((sched I).payload g r d) := by
  dsimp only [sched]
  unfold barPay landing ready
  (repeat' split) <;> infer_instance

theorem duties_bar (c : Dev nD) : (sched I).duties (bar c) 0 = Finset.univ.erase c := by dsimp only [sched]; exact if_pos ⟨rfl, rfl⟩
theorem duties_cell (a : Fin 8) {c i : Dev nD} (h : i ≠ c) : (sched I).duties (cell a c i) 0 = {0} := by
  dsimp only [sched]; rw [if_pos ⟨rfl, rfl⟩, decode_dsem]; exact if_neg h
theorem duties_own (a : Fin 8) (c : Dev nD) (r : ℕ) : (sched I).duties (cell a c c) r = ∅ := by
  dsimp only [sched]; rw [decode_dsem]
  split
  · exact if_pos rfl
  · rfl
theorem duties_later (g : GSem nD τ sig) : ∀ r, 1 ≤ r → (sched I).duties g r = ∅ :=
  fun r hr => by dsimp only [sched]; rw [if_neg (fun h => by omega)]
theorem amount_bar (c d : Dev nD) : (sched I).amount (bar c) 0 d = 1 := rfl
theorem amount_cell (a : Fin 8) (c i d : Dev nD) : (sched I).amount (cell a c i) 0 d = words a := by
  dsimp only [sched]; rw [decode_dsem]
theorem payload_bar (c d : Dev nD) : (sched I).payload (bar c) 0 d = barPay c d := rfl
theorem payload_cell (a : Fin 8) (c i d : Dev nD) : (sched I).payload (cell a c i) 0 d = pay I a c i := by
  dsimp only [sched]; rw [decode_dsem]
theorem expect_bar (c : Dev nD) : (sched I).expect (bar c) 0 = 15 := by
  unfold Schedule.expect Schedule.amountOf
  rw [duties_bar, Finset.sum_congr rfl fun d _ => amount_bar I c d, Finset.sum_const, Finset.card_erase_of_mem (Finset.mem_univ c), Finset.card_univ]
  rfl
theorem expect_cell (a : Fin 8) {c i : Dev nD} (h : i ≠ c) : (sched I).expect (cell a c i) 0 = words a := by
  unfold Schedule.expect Schedule.amountOf; rw [duties_cell I a h, Finset.sum_singleton, amount_cell]
theorem rest_bar (c : Dev nD) : bigSep ((sched I).duties (bar c) 0 \ ∅) (fun d => (sched I).payload (bar c) 0 d)
    = bigSep (Finset.univ : Finset (Fin 15)) fun k => barPay (F := F) c (peer c k) := by
  rw [Finset.sdiff_empty, duties_bar, bigSep_erase_peer]; rfl
theorem rest_cell (a : Fin 8) {c i : Dev nD} (h : i ≠ c) :
    bigSep ((sched I).duties (cell a c i) 0 \ ∅) (fun d => (sched I).payload (cell a c i) 0 d) = pay I a c i := by
  rw [Finset.sdiff_empty, duties_cell I a h, bigSep_singleton, payload_cell]

/-! ## Levels and dues -/

def L (g : GSem nD τ sig) : Finset Unit := if g.1.2 = .tc then {()} else ∅
/-- The order of the waits: the barrier, the gathered keys and values, the partial results, the sums. -/
def lv (g : GSem nD τ sig) (_ : Unit) : ℕ := match g.2 with
  | .reg _ => 1
  | .dma j => match decode j with
    | some (a, _) => (![0, 2, 0, 2, 0, 3, 0, 4] : Fin 8 → ℕ) a
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (bar c) () = 1 := rfl
theorem lv_cell (a : Fin 8) (c i : Dev nD) : lv (cell a c i) () = (![0, 2, 0, 2, 0, 3, 0, 4] : Fin 8 → ℕ) a := by
  dsimp only [lv]; rw [decode_dsem]

/-- Everything owed is owed to cells above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  by_cases h0 : 0 < O g u
  · exact h g u h0
  · exact h' g u (by
      have e : (O + O') g u = O g u + O' g u := rfl
      omega)
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem mayWait {n : ℕ} (c : Dev nD) (sm : SemLoc sig) {O : CellTallies nD τ sig Unit} (h : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact h) (fun g u hg => (hO g u hg).2)

/-- What is owed over the rounds of a list, above what is owed after them. -/
def due (f : Fin 15 → CellTallies nD τ sig Unit) (O : CellTallies nD τ sig Unit) : List (Fin 15) → CellTallies nD τ sig Unit
  | [] => O
  | k :: l => due f O l + f k

theorem above_due {n : ℕ} {f : Fin 15 → CellTallies nD τ sig Unit} {O : CellTallies nD τ sig Unit} (hf : ∀ k, Above n (f k)) (h : Above n O) :
    ∀ l, Above n (due f O l)
  | [] => h
  | k :: l => above_add (above_due hf h l) (hf k)

/-- What a copy of exchange `a` to peer `k` owes. -/
def owe (a : Fin 8) (c : Dev nD) (k : Fin 15) : CellTallies nD τ sig Unit := tallyAt (cell a (peer c k) c) () (words a)
/-- What a device owes from the exchange of the sums on. -/
def due3 (c : Dev nD) : List (Fin 15) → CellTallies nD τ sig Unit := due (owe 7 c) 0
/-- What a device owes from the exchange of the partial results on. -/
def due2 (c : Dev nD) : List (Fin 15) → CellTallies nD τ sig Unit := due (owe 5 c) (due3 c rounds)
/-- What a device owes from the exchange of the keys and values on. -/
def due1 (c : Dev nD) : List (Fin 15) → CellTallies nD τ sig Unit := due (fun k => owe 3 c k + owe 1 c k) (due2 c rounds)
/-- What a device owes from the barrier on. -/
def due0 (c : Dev nD) : List (Fin 15) → CellTallies nD τ sig Unit := due (fun k => tallyAt (bar (peer c k)) () 1) (due1 c rounds)
/-- What a device owes at launch. -/
def O₀ (c : Dev nD) : CellTallies nD τ sig Unit := due0 c rounds

theorem above_owe {n : ℕ} (a : Fin 8) (h : n < (![0, 2, 0, 2, 0, 3, 0, 4] : Fin 8 → ℕ) a) (c : Dev nD) (k : Fin 15) : Above n (owe a c k) :=
  above_tally _ _ _ (by rw [lv_cell]; exact h)
theorem above3 (c : Dev nD) (l : List (Fin 15)) : Above 3 (due3 c l) := above_due (above_owe 7 (by decide) c) (above_zero _) l
theorem above2 (c : Dev nD) (l : List (Fin 15)) : Above 2 (due2 c l) :=
  above_due (above_owe 5 (by decide) c) (fun g u h => ⟨(above3 c rounds g u h).1, (Nat.lt_succ_self 2).trans (above3 c rounds g u h).2⟩) l
theorem above1 (c : Dev nD) (l : List (Fin 15)) : Above 1 (due1 c l) :=
  above_due (fun k => above_add (above_owe 3 (by decide) c k) (above_owe 1 (by decide) c k))
    (fun g u h => ⟨(above2 c rounds g u h).1, (Nat.lt_succ_self 1).trans (above2 c rounds g u h).2⟩) l
theorem above0 (c : Dev nD) (l : List (Fin 15)) : Above 0 (due0 c l) :=
  above_due (fun k => above_tally _ _ _ (by rw [lv_bar]; decide))
    (fun g u h => ⟨(above1 c rounds g u h).1, (Nat.lt_succ_self 0).trans (above1 c rounds g u h).2⟩) l

end Cert.KernelIdeal.Own

end
-- ==== Proof.Steps.lean ====
/- The steps of the body that touch a cell, and the rule for its loops. -/
module

public import proofs.«01_k».proof.Proof.Protocol

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a piece of the body on device `c`. -/
abbrev wpc (c : Dev nD) (p : Prog (Eff F) PUnit) (Q : PUnit → sProp 𝕄) : sProp 𝕄 :=
  wp frame (wpE (defs₀ (F := F)) 𝒱₀ (c : Thread nD τ) none) Set.univ p Q

/-! ## Loops -/

/-- A family over a list. -/
def sepL (A : Fin 15 → sProp 𝕄) : List (Fin 15) → sProp 𝕄
  | [] => iprop(emp)
  | k :: l => iprop(A k ∗ sepL A l)

theorem sepL_eq (A : Fin 15 → sProp 𝕄) : ∀ l : List (Fin 15), l.Nodup → sepL A l = bigSep l.toFinset A
  | [], _ => by rw [List.toFinset_nil, bigSep_empty]; rfl
  | k :: l, h => by
    rw [List.toFinset_cons, BI.bigSep_insert (by rw [List.mem_toFinset]; exact (List.nodup_cons.mp h).1), ← sepL_eq A l (List.nodup_cons.mp h).2]
    rfl

theorem sepL_rounds (A : Fin 15 → sProp 𝕄) : sepL A rounds = bigSep Finset.univ A := by
  rw [sepL_eq A rounds (by decide)]; congr 1

/-- A loop: a step that turns what one round takes into what it leaves, under something that rides along. -/
theorem wp_loop (c : Dev nD) (P : sProp 𝕄) [BI.Persistent P] (f : Fin 15 → Prog (Eff F) PUnit) (J : List (Fin 15) → sProp 𝕄) (A B : Fin 15 → sProp 𝕄)
    (step : ∀ k l (p : Prog (Eff F) PUnit) Q, iprop(P ∗ J (k :: l) ∗ A k ∗ ((J l ∗ B k) -∗ wpc c p Q)) ⊢ wpc c (f k >>= fun _ => p) Q) :
    ∀ (l : List (Fin 15)) (rest : Prog (Eff F) PUnit) (Q : PUnit → sProp 𝕄),
      iprop(P ∗ J l ∗ sepL A l ∗ ((J [] ∗ sepL B l) -∗ wpc c rest Q)) ⊢ wpc c (seqL f l rest) Q
  | [], rest, Q => by
    show _ ⊢ wpc c rest Q
    unfold sepL
    iintro ⟨-, HJ, HA, Hk⟩
    iapply Hk
    isplitl [HJ]; · iexact HJ
    iexact HA
  | k :: l, rest, Q => by
    show _ ⊢ wpc c (f k >>= fun _ => seqL f l rest) Q
    unfold sepL
    iintro ⟨#HP, HJ, ⟨Hk, HA⟩, Hr⟩
    iapply (step k l (seqL f l rest) Q)
    isplitr; · iexact HP
    isplitl [HJ]; · iexact HJ
    isplitl [Hk]; · iexact Hk
    iintro ⟨HJ, HB⟩
    iapply (wp_loop c P f J A B step l rest Q)
    isplitr; · iexact HP
    isplitl [HJ]; · iexact HJ
    isplitl [HA]; · iexact HA
    iintro ⟨HJ, HBs⟩
    iapply Hr
    isplitl [HJ]; · iexact HJ
    isplitl [HB]; · iexact HB
    iexact HBs

/-- The same over all fifteen rounds. -/
theorem wp_rounds (c : Dev nD) (P : sProp 𝕄) [BI.Persistent P] (f : Fin 15 → Prog (Eff F) PUnit) (J : List (Fin 15) → sProp 𝕄) (A B : Fin 15 → sProp 𝕄)
    (step : ∀ k l (p : Prog (Eff F) PUnit) Q, iprop(P ∗ J (k :: l) ∗ A k ∗ ((J l ∗ B k) -∗ wpc c p Q)) ⊢ wpc c (f k >>= fun _ => p) Q)
    (rest : Prog (Eff F) PUnit) (Q : PUnit → sProp 𝕄) :
    iprop(P ∗ J rounds ∗ bigSep Finset.univ A ∗ ((J [] ∗ bigSep Finset.univ B) -∗ wpc c rest Q)) ⊢ wpc c (seqL f rounds rest) Q := by
  rw [← sepL_rounds, ← sepL_rounds]
  exact wp_loop c P f J A B step rounds rest Q

variable (I : Inputs F)

/-! ## What every device knows -/

/-- One member of a family. -/
theorem member {T : Type} [DecidableEq T] {s : Finset T} {i : T} (h : i ∈ s) {Φ : T → sProp 𝕄} : (bigSep s Φ : sProp 𝕄) ⊢ Φ i := bigSep_elim h

/-- Every cell runs the schedule, every barrier cell is open, and the levels. -/
def known (κ : GSem nD τ sig → ℕ) : sProp 𝕄 :=
  iprop((bigSep (Finset.univ : Finset (Dev nD)) fun c => cellInv ER (sched I) (κ (bar c)) (bar c))
    ∗ (bigSep (Finset.univ : Finset (Fin 8 × Dev nD × Dev nD)) fun t => cellInv ER (sched I) (κ (cell t.1 t.2.1 t.2.2)) (cell t.1 t.2.1 t.2.2))
    ∗ (bigSep (Finset.univ : Finset (Dev nD)) fun c => reached (ER (F := F)) (bar c) 0)
    ∗ levAts L lv)

instance known_persistent (κ : GSem nD τ sig → ℕ) : BI.Persistent (known I κ) := by unfold known; infer_instance

theorem known_bar (κ : GSem nD τ sig → ℕ) (c : Dev nD) : known I κ ⊢ cellInv ER (sched I) (κ (bar c)) (bar c) := by
  unfold known
  iintro ⟨H, -, -, -⟩
  iapply (member (Φ := fun c => cellInv ER (sched I) (κ (bar c)) (bar c)) (Finset.mem_univ c)); iexact H
theorem known_cell (κ : GSem nD τ sig → ℕ) (a : Fin 8) (c i : Dev nD) : known I κ ⊢ cellInv ER (sched I) (κ (cell a c i)) (cell a c i) := by
  unfold known
  iintro ⟨-, H, -, -⟩
  iapply (member (Φ := fun t : Fin 8 × Dev nD × Dev nD => cellInv ER (sched I) (κ (cell t.1 t.2.1 t.2.2)) (cell t.1 t.2.1 t.2.2)) (Finset.mem_univ (a, c, i))); iexact H
theorem known_reached (κ : GSem nD τ sig → ℕ) (c : Dev nD) : known I κ ⊢ reached (ER (F := F)) (bar c) 0 := by
  unfold known
  iintro ⟨-, -, H, -⟩
  iapply (member (Φ := fun c => reached (ER (F := F)) (bar c) 0) (Finset.mem_univ c)); iexact H
theorem known_wait (κ : GSem nD τ sig → ℕ) {n : ℕ} (c : Dev nD) (sm : SemLoc sig) {O : CellTallies nD τ sig Unit}
    (h : lv ((c : Thread nD τ), sm) () ≤ n) (hO : Above n O) : known I κ ⊢ MayWait (c : Thread nD τ) sm () O := by
  unfold known
  iintro ⟨-, -, -, H⟩
  iapply (mayWait (F := F) c sm h hO); iexact H

/-- A device owes `O`, whatever it has waited for. -/
def owing (c : Dev nD) (O : CellTallies nD τ sig Unit) : sProp 𝕄 := iprop(∃ W, owes (c : Thread nD τ) O W)

/-! ## Cells -/

/-- Signal a peer's barrier cell. -/
theorem sig_step (κ : GSem nD τ sig → ℕ) (c j : Dev nD) (h : c ≠ j) (O : CellTallies nD τ sig Unit) (p : PUnit → Prog (Eff F) PUnit) (Q : PUnit → sProp 𝕄) :
    iprop(known I κ ∗ owing c (O + tallyAt (bar j) () 1) ∗ (dutyTok (ER (F := F)) (bar j) 0 c ∗ landing (F := F) c j ∗ ready (F := F) c j) ∗ (owing c O -∗ wpc c (p ⟨⟩) Q))
      ⊢ wpc c (.op (.semSignal (Dev.tc j) barrierSem 1) p) Q := by
  unfold owing
  iintro ⟨#HP, ⟨%W, HO⟩, ⟨Ht, Hl, Hr⟩, Hk⟩
  ihave #HI := (known_bar I κ j) $$ HP
  ihave #HR := (known_reached I κ j) $$ HP
  iapply (Rounds.wp_signal 𝒱₀ ER (sched I) (c : Thread nD τ) none (dst := (j : Thread nD τ)) (sem := barrierSem) (r := 0) (d := c) (κ := κ (bar j))
      (by rw [duties_bar]; exact Finset.mem_erase.mpr ⟨h, Finset.mem_univ _⟩) (amount_bar I j c) () O rfl)
    $$ [HO Ht Hl Hr]
  · isplitr; · iexact HI
    isplitl [HO]; · iexact HO
    isplitl [Ht]; · iexact Ht
    isplitl [Hl Hr]
    · rw [payload_bar]; unfold barPay
      isplitl [Hl]; · iexact Hl
      iexact Hr
    · iexact HR
  iintro HO
  iapply Hk
  iexists W; iexact HO

/-- Wait for all fifteen units of a device's own barrier cell. -/
theorem bar_step (κ : GSem nD τ sig → ℕ) (c : Dev nD) (O : CellTallies nD τ sig Unit) (hO : Above 1 O) (p : PUnit → Prog (Eff F) PUnit) (Q : PUnit → sProp 𝕄) :
    iprop(known I κ ∗ owing c O ∗ (cred (tallyAt (bar c) () 15) ∗ atPos (ER (F := F)) (bar c) 0 ∅ 0)
        ∗ ((owing c O ∗ atPos (ER (F := F)) (bar c) 1 ∅ 0 ∗ bigSep (Finset.univ : Finset (Fin 15)) fun k => barPay (F := F) c (peer c k)) -∗ wpc c (p ⟨⟩) Q))
      ⊢ wpc c (.op (.semWait barrierSem 15) p) Q := by
  unfold owing
  iintro ⟨#HP, ⟨%W, HO⟩, ⟨Hc, Ha⟩, Hk⟩
  ihave #HI := (known_bar I κ c) $$ HP
  iapply (Rounds.wp_wait_rest_token 𝒱₀ ER (sched I) (c : Thread nD τ) none (κ := κ (bar c))
      (wpE_semWait_eq 𝒱₀ (c : Thread nD τ) none Set.univ) (Set.mem_univ _) () (O := O) (W := W) (R := 0) (m := 0) (T := ∅)
      ((Nat.zero_add 15).trans (expect_bar I c).symm)) $$ [Hc HO Ha]
  · isplitr; · iexact HI
    isplitl [Hc]; · iexact Hc
    isplitl [HO]; · iexact HO
    isplitr; · iapply (known_wait I κ (n := 1) c (.reg barrierSem) (le_of_eq (lv_bar c)) hO); iexact HP
    iexact Ha
  iintro ⟨HO, Ha, -, Hp⟩
  ihave Hp := (Entails.of_eq (rest_bar I c)) $$ Hp
  iapply Hk
  isplitl [HO]; · iexists _; iexact HO
  isplitl [Ha]; · iexact Ha
  iexact Hp

/-- Wait for the one copy that pays a cell. -/
theorem wait_step (κ : GSem nD τ sig → ℕ) (a : Fin 8) (c i : Dev nD) (h : i ≠ c) (O : CellTallies nD τ sig Unit) (n : ℕ)
    (hn : (![0, 2, 0, 2, 0, 3, 0, 4] : Fin 8 → ℕ) a ≤ n) (hO : Above n O) {sp sp' : Space} {s : Shape} {e : EltTy}
    (sm : DmaSem sig) (hsm : sm = dsem a i) (src : Memref sig .tc sp s e) (dst : Memref sig .tc sp' s e) (hs hd)
    (hw : dst.view.dmaCredit = words a) (p : PUnit → Prog (Eff F) PUnit) (Q : PUnit → sProp 𝕄) :
    iprop(known I κ ∗ owing c O ∗ (cred (tallyAt (cell a c i) () (words a)) ∗ atPos (ER (F := F)) (cell a c i) 0 ∅ 0)
        ∗ ((owing c O ∗ atPos (ER (F := F)) (cell a c i) 1 ∅ 0 ∗ pay I a c i) -∗ wpc c (p ⟨⟩) Q))
      ⊢ wpc c (.op (.waitDma2 sm src dst hs hd) p) Q := by
  subst hsm
  unfold owing
  iintro ⟨#HP, ⟨%W, HO⟩, ⟨Hc, Ha⟩, Hk⟩
  ihave #HI := (known_cell I κ a c i) $$ HP
  iapply (Rounds.wp_wait_rest_token 𝒱₀ ER (sched I) (c : Thread nD τ) none (κ := κ (cell a c i))
      (wpE_waitDma2_eq (src := src) (dst := dst) 𝒱₀ (c : Thread nD τ) none Set.univ) (Set.mem_univ _) () (O := O) (W := W) (R := 0) (m := 0) (T := ∅)
      ((Nat.zero_add _).trans (hw.trans (expect_cell I a h).symm))) $$ [Hc HO Ha]
  · isplitr; · iexact HI
    isplitl [Hc]; · rw [hw]; iexact Hc
    isplitl [HO]; · iexact HO
    isplitr; · iapply (known_wait I κ (n := n) c (.dma (dsem a i)) (by rw [lv_cell]; exact hn) hO); iexact HP
    iexact Ha
  iintro ⟨HO, Ha, -, Hp⟩
  ihave Hp := (Entails.of_eq (rest_cell I a h)) $$ Hp
  iapply Hk
  isplitl [HO]; · iexists _; iexact HO
  isplitl [Ha]; · iexact Ha
  iexact Hp

/-- What a copy to device `j` pays with, but for its two pieces: its completion cell `a` and the arrival cell `b` at `j`. -/
def tokens (a b : Fin 8) (c j : Dev nD) : sProp 𝕄 :=
  iprop(dutyTok (ER (F := F)) (cell a c j) 0 0 ∗ reached (ER (F := F)) (cell a c j) 0
    ∗ dutyTok (ER (F := F)) (cell b j c) 0 0 ∗ reached (ER (F := F)) (cell b j c) 0)

/-- Start a copy to a peer: the completion cell's credit, for the source piece and the destination piece. -/
theorem send_step (κ : GSem nD τ sig → ℕ) (a b : Fin 8) (hab : words a = words b) (c j dv : Dev nD) (hdv : dv = j) (h : j ≠ c)
    (O : CellTallies nD τ sig Unit) {sp sp' : Space} {s : Shape} {e : EltTy}
    (src : Memref sig .tc sp s e) (dst : Memref sig .tc sp' s e) (sS sem : DmaSem sig) (hsS : sS = dsem a j) (hsem : sem = dsem b c)
    (hsc) (hs : src.view.WordExact) (hd : (DmaTarget.remote (nD := nD) (τ := τ) (Dev.tc dv) dst (.dma sS) hsc).view.WordExact) (ht : DmaTarget.Typed (nD := nD) (τ := τ) sp (.dma sem) (.remote (Dev.tc dv) dst (.dma sS) hsc))
    (hw : dst.view.dmaCredit = words b) (q : PosShare TreeShare) (fs : Buf (Elt F) (src.view.loc (c : Thread nD τ)))
    (D : sProp 𝕄) (hpay : pay I a c j = (src.view.loc (c : Thread nD τ) ↦[src.view.set]{q} fs))
    (hD : D ⊢ iprop(∃ fd, dst.view.loc (j : Thread nD τ) ↦[dst.view.set]{fullShare} fd))
    (hland : ∀ fd, (dst.view.loc (j : Thread nD τ) ↦[dst.view.set]{fullShare} (dst.view.write (Elt F) fd (src.view.read (Elt F) fs) Finset.univ)) ⊢ pay I b j c)
    (p : PUnit → Prog (Eff F) PUnit) (Q : PUnit → sProp 𝕄) :
    iprop(known I κ ∗ owing c (O + tallyAt (cell b j c) () (words b)) ∗ (pay I a c j ∗ D ∗ tokens (F := F) a b c j)
        ∗ ((owing c O ∗ cred (tallyAt (cell a c j) () (words a))) -∗ wpc c (p ⟨⟩) Q))
      ⊢ wpc c (.op (.enqueueDma src (.remote (Dev.tc dv) dst (.dma sS) hsc) (.dma sem) hs hd ht) p) Q := by
  subst hdv hsS hsem
  unfold owing tokens
  iintro ⟨#HP, ⟨%W, HO⟩, ⟨Hs, HD, ⟨Ht1, Hr1, Ht2, Hr2⟩⟩, Hk⟩
  ihave #HI1 := (known_cell I κ a c dv) $$ HP
  ihave #HI2 := (known_cell I κ b dv c) $$ HP
  ihave HD := hD $$ HD
  icases HD with ⟨%fd, HD⟩
  ihave Hs := (Entails.of_eq hpay) $$ Hs
  iapply (Rounds.wp_send_pointsTo 𝒱₀ ER (sched I) (c : Thread nD τ) none (c' := (dv : Thread nD τ)) (src := src) (dst := dst)
      (sS := .dma (dsem a dv)) (sem := .dma (dsem b c)) (q := q) (fs := fs) (κ₁ := κ (cell a c dv)) (κ₂ := κ (cell b dv c))
      (r₁ := 0) (r₂ := 0) (d₁ := 0) (d₂ := 0) (fd := fd)
      (by rw [duties_cell I a h]; exact Finset.mem_singleton_self _) (by rw [duties_cell I b h.symm]; exact Finset.mem_singleton_self _)
      () () (words b) hw ((amount_cell I a c dv 0).trans hab) (amount_cell I b dv c 0) O rfl (W := W)
      (by rw [payload_cell, hpay])
      (by rw [payload_cell]; exact hland fd)) $$ [Hs HD HO Ht1 Hr1 Ht2 Hr2]
  · isplitr; · iexact HI1
    isplitr; · iexact HI2
    isplitl [Hs]; · iexact Hs
    isplitl [HD]; · iexact HD
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists _; iexact HO
  rw [hab]; iexact Hc

end Cert.KernelIdeal.Own

end
-- ==== Proof.Landing.lean ====
/- What the exchanges' views stand for: the pieces they read and write, and that a piece lands where it should. -/
module

public import proofs.«01_k».proof.Proof.Steps
public import Idealize.ShloMosaic.Lib.Pipeline.Value

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

/-! ## The buffers -/

abbrev xM : Memref sig .tc .vmem S2x256x512 .bf16 := Memref.whole cc0_stg0_0
abbrev wqM : Memref sig .tc .vmem S512x256 .bf16 := Memref.whole cc0_stg1_0
abbrev kM : Memref sig .tc .vmem S2x256x4096 .bf16 := Memref.whole cc0_stg2_0
abbrev vM : Memref sig .tc .vmem S2x256x4096 .bf16 := Memref.whole cc0_stg3_0
abbrev woM : Memref sig .tc .vmem S256x512 .bf16 := Memref.whole cc0_stg4_0
abbrev outM : Memref sig .tc .vmem S2x256x512 .f32 := Memref.whole cc0_stg5_0
abbrev kgM : Memref sig .tc .vmem S16x2x256x256 .bf16 := Memref.whole cc0_scratch0
abbrev vgM : Memref sig .tc .vmem S16x2x256x256 .bf16 := Memref.whole cc0_scratch1
abbrev poM : Memref sig .tc .vmem S2x256x512 .f32 := Memref.whole cc0_scratch2
abbrev rsM : Memref sig .tc .vmem S16x2x16x512 .f32 := Memref.whole cc0_scratch3
abbrev redM : Memref sig .tc .vmem S2x16x512 .f32 := Memref.whole cc0_scratch4
abbrev agM : Memref sig .tc .vmem S16x2x16x512 .f32 := Memref.whole cc0_scratch5

/-! ## Sets -/

theorem kM_cols (d : Dev nD) (k : Fin 15) : (peerCols kM d k).view.set = (colRect (peer d k)).set := by
  rw [← peerCols_eq]; exact View.set_slice_whole _ _
theorem vM_cols (d : Dev nD) (k : Fin 15) : (peerCols vM d k).view.set = (colRect (peer d k)).set := by
  rw [← peerCols_eq]; exact View.set_slice_whole _ _
theorem kgM_slot (d : Dev nD) : (slotAt kgM d).view.set = (slotRect d).set := by
  rw [← slotAt_eq]; exact (View.set_reshape _ _).trans (View.set_slice_whole _ _)
theorem vgM_slot (d : Dev nD) : (slotAt vgM d).view.set = (slotRect d).set := by
  rw [← slotAt_eq]; exact (View.set_reshape _ _).trans (View.set_slice_whole _ _)
theorem poM_rows (d : Dev nD) (k : Fin 15) : (peerRows poM d k).view.set = (rowRect (peer d k)).set := by
  rw [← peerRows_eq]; exact View.set_slice_whole _ _
theorem rsM_chunk (d : Dev nD) : (chunkAt rsM d).view.set = (chunkRect d).set := by
  rw [← chunkAt_eq]; exact (View.set_reshape _ _).trans (View.set_slice_whole _ _)
theorem agM_chunk (d : Dev nD) : (chunkAt agM d).view.set = (chunkRect d).set := by
  rw [← chunkAt_eq]; exact (View.set_reshape _ _).trans (View.set_slice_whole _ _)

/-- A write through a view leaves what is wanted on its set, if it writes what is wanted at each of its elements. -/
theorem write_on {sp : Space} {s : Shape} {e : EltTy} (v : View sig .tc sp s e) (fd : v.ty.Contents (Elt F)) (w : s.Idx → Elt F e) (G : v.ty.Contents (Elt F))
    (h : ∀ y, _root_.cast (congrArg (Elt F) v.elt_eq.symm) (w y) = G (v.emb y)) : ∀ i ∈ v.set, v.write (Elt F) fd w Finset.univ i = G i := by
  intro i hi
  obtain ⟨y, -, rfl⟩ := Finset.mem_map.mp hi
  rw [View.write_emb_of_mem (v := v) (f := fd) (w := w) (Finset.mem_univ y), h]

variable (I : Inputs F)

/-- An element of slot `d` of device `c`'s gathered keys, by the element of the piece it comes from. -/
theorem gath_slot (A : Dev nD → Vec F S2x256x4096 .bf16) (c d : Dev nD) (h : S2x256x256.numel = S1x2x256x256.numel) (y : S2x256x256.Idx) :
    gath A c ((slotRect d).emb (Shape.reshapeEquiv h y)) = A d ((colRect c).emb y) := by
  unfold gath
  rw [slot_head, slot_tail]

/-- An element of slot `d` of device `c`'s row chunks. -/
theorem spread_slot (A : Dev nD → Vec F S2x256x512 .f32) (c d : Dev nD) (h : S2x16x512.numel = S1x2x16x512.numel) (y : S2x16x512.Idx) :
    spread A c ((chunkRect d).emb (Shape.reshapeEquiv h y)) = A d ((rowRect c).emb y) := by
  unfold spread
  rw [chunk_head, chunk_tail]

/-- An element of slot `d` of collected chunks. -/
theorem collect_slot (A : Dev nD → Vec F S2x16x512 .f32) (d : Dev nD) (h : S2x16x512.numel = S1x2x16x512.numel) (y : S2x16x512.Idx) :
    collect A ((chunkRect d).emb (Shape.reshapeEquiv h y)) = A d y := by
  unfold collect
  rw [chunk_head, chunk_tail]

/-- Rectangles at equal offsets place an element alike. -/
theorem unit_emb {s : Shape} {off off' size : Fin s.rank → ℕ} (h : off = off') (p p') (z : (⟨s.rank, size⟩ : Shape).Idx) :
    (Rect.unit (s := s) off size p).emb z = (Rect.unit (s := s) off' size p').emb z := by subst h; rfl

theorem kv_emb (d : Dev nD) (k : Fin 15) (y : S2x256x256.Idx) :
    (Rect.unit (s := S2x256x4096) (k0_off4 d (rw32 k)) S2x256x256.size (k0_off4_inb d k)).emb y = (colRect (peer d k)).emb y := by
  exact unit_emb (s := S2x256x4096) (size := S2x256x256.size) (off' := ![0, 0, 256 * (peer d k).val]) ((k0_off4_eq d k).trans (by unfold peer; simp only [Nat.add_assoc])) _ _ y
theorem slot_emb (d : Dev nD) (z : S1x2x256x256.Idx) :
    (Rect.unit (s := S16x2x256x256) (k0_off3 d) S1x2x256x256.size (k0_off3_inb d)).emb z = (slotRect d).emb z := by
  exact unit_emb (s := S16x2x256x256) (size := S1x2x256x256.size) (k0_off3_eq d) _ _ z
theorem rows_emb (d : Dev nD) (k : Fin 15) (y : S2x16x512.Idx) :
    (Rect.unit (s := S2x256x512) (k0_off10 d (rw32 k)) S2x16x512.size (k0_off10_inb d k)).emb y = (rowRect (peer d k)).emb y := by
  exact unit_emb (s := S2x256x512) (size := S2x16x512.size) (off' := ![0, 16 * (peer d k).val, 0]) ((k0_off10_eq d k).trans (by unfold peer; simp only [Nat.add_assoc])) _ _ y
theorem chunk_emb (d : Dev nD) (z : S1x2x16x512.Idx) :
    (Rect.unit (s := S16x2x16x512) (k0_off9 d) S1x2x16x512.size (k0_off9_inb d)).emb z = (chunkRect d).emb z := by
  exact unit_emb (s := S16x2x16x512) (size := S1x2x16x512.size) (k0_off9_eq d) _ _ z

/-! ## Landings -/

theorem kg_on (A : Dev nD → Vec F S2x256x4096 .bf16) (c : Dev nD) (k : Fin 15) (fd : (cc0_scratch0 : Ref sig .tc).ty.Contents (Elt F)) :
    ∀ i ∈ (slotAt kgM c).view.set, (slotAt kgM c).view.write (Elt F) fd ((peerCols kM c k).view.read (Elt F) (A c)) Finset.univ i = gath A (peer c k) i :=
  write_on (slotAt kgM c).view fd _ (gath A (peer c k)) fun y =>
    (congrArg (A c) (kv_emb c k y)).trans ((gath_slot A (peer c k) c _ y).symm.trans (congrArg (gath A (peer c k)) (slot_emb c _).symm))

theorem vg_on (A : Dev nD → Vec F S2x256x4096 .bf16) (c : Dev nD) (k : Fin 15) (fd : (cc0_scratch1 : Ref sig .tc).ty.Contents (Elt F)) :
    ∀ i ∈ (slotAt vgM c).view.set, (slotAt vgM c).view.write (Elt F) fd ((peerCols vM c k).view.read (Elt F) (A c)) Finset.univ i = gath A (peer c k) i :=
  write_on (slotAt vgM c).view fd _ (gath A (peer c k)) fun y =>
    (congrArg (A c) (kv_emb c k y)).trans ((gath_slot A (peer c k) c _ y).symm.trans (congrArg (gath A (peer c k)) (slot_emb c _).symm))

theorem rs_on (A : Dev nD → Vec F S2x256x512 .f32) (c : Dev nD) (k : Fin 15) (fd : (cc0_scratch3 : Ref sig .tc).ty.Contents (Elt F)) :
    ∀ i ∈ (chunkAt rsM c).view.set, (chunkAt rsM c).view.write (Elt F) fd ((peerRows poM c k).view.read (Elt F) (A c)) Finset.univ i = spread A (peer c k) i :=
  write_on (chunkAt rsM c).view fd _ (spread A (peer c k)) fun y =>
    (congrArg (A c) (rows_emb c k y)).trans ((spread_slot A (peer c k) c _ y).symm.trans (congrArg (spread A (peer c k)) (chunk_emb c _).symm))

theorem ag_on (A : Dev nD → Vec F S2x16x512 .f32) (c : Dev nD) (fd : (cc0_scratch5 : Ref sig .tc).ty.Contents (Elt F)) :
    ∀ i ∈ (chunkAt agM c).view.set, (chunkAt agM c).view.write (Elt F) fd (redM.view.read (Elt F) (A c)) Finset.univ i = collect A i :=
  write_on (chunkAt agM c).view fd _ (collect A) fun y =>
    (collect_slot A c _ y).symm.trans (congrArg (collect A) (chunk_emb c _).symm)

theorem k_land (c : Dev nD) (k : Fin 15) (fd : Buf (Elt F) ((peer c k : Thread nD τ).loc cc0_scratch0)) :
    ((slotAt kgM c).view.loc (peer c k : Thread nD τ) ↦[(slotAt kgM c).view.set]{fullShare}
      ((slotAt kgM c).view.write (Elt F) fd ((peerCols kM c k).view.read (Elt F) (I.k c)) Finset.univ) : sProp 𝕄) ⊢ pay I 1 (peer c k) c :=
  Entails.of_eq ((pointsTo_congr (kg_on I.k c k fd)).trans (by rw [kgM_slot]; rfl))

theorem v_land (c : Dev nD) (k : Fin 15) (fd : Buf (Elt F) ((peer c k : Thread nD τ).loc cc0_scratch1)) :
    ((slotAt vgM c).view.loc (peer c k : Thread nD τ) ↦[(slotAt vgM c).view.set]{fullShare}
      ((slotAt vgM c).view.write (Elt F) fd ((peerCols vM c k).view.read (Elt F) (I.v c)) Finset.univ) : sProp 𝕄) ⊢ pay I 3 (peer c k) c :=
  Entails.of_eq ((pointsTo_congr (vg_on I.v c k fd)).trans (by rw [vgM_slot]; rfl))

theorem rs_land (c : Dev nD) (k : Fin 15) (fd : Buf (Elt F) ((peer c k : Thread nD τ).loc cc0_scratch3)) :
    ((chunkAt rsM c).view.loc (peer c k : Thread nD τ) ↦[(chunkAt rsM c).view.set]{fullShare}
      ((chunkAt rsM c).view.write (Elt F) fd ((peerRows poM c k).view.read (Elt F) (part I c)) Finset.univ) : sProp 𝕄) ⊢ pay I 5 (peer c k) c :=
  Entails.of_eq ((pointsTo_congr (rs_on (part I) c k fd)).trans (by rw [rsM_chunk]; rfl))

theorem ag_land (c j : Dev nD) (fd : Buf (Elt F) ((j : Thread nD τ).loc cc0_scratch5)) :
    ((chunkAt agM c).view.loc (j : Thread nD τ) ↦[(chunkAt agM c).view.set]{fullShare}
      ((chunkAt agM c).view.write (Elt F) fd (redM.view.read (Elt F) (reduced I c)) Finset.univ) : sProp 𝕄) ⊢ pay I 7 j c :=
  Entails.of_eq ((pointsTo_congr (ag_on (reduced I) c fd)).trans (by rw [agM_chunk]; rfl))

/-! ## A device's own pieces -/

/-- A piece with a leading axis of one, indexed through the piece without it. -/
theorem unit_cast {α : Type} {s t : Shape} (w : s.Idx → α) (h : s.ShapeCasts s) (h' : s.ShapeCasts t) (h'' : t.ShapeCasts t) (y : t.Idx) :
    shapeCast t (shapeCast t (shapeCast s w h) h') h'' y = w (Shape.reshapeEquiv h' y) := by
  rw [shapeCast_self, shapeCast_self]; rfl

theorem pay1_eq (w : Vec F S2x256x256 .bf16) (y : S1x2x256x256.Idx) :
    k0_pay1 w y = w (Shape.reshapeEquiv shapeCasts_S2x256x256_S1x2x256x256 y) := unit_cast w _ _ _ y
theorem pay2_eq (w : Vec F S2x256x256 .bf16) (y : S1x2x256x256.Idx) :
    k0_pay2 w y = w (Shape.reshapeEquiv shapeCasts_S2x256x256_S1x2x256x256 y) := unit_cast w _ _ _ y
theorem pay28_eq (w : Vec F S2x16x512 .f32) (y : S1x2x16x512.Idx) :
    k0_pay28 w y = w (Shape.reshapeEquiv shapeCasts_S2x16x512_S1x2x16x512 y) := by
  unfold k0_pay28; rw [shapeCast_self]; rfl
theorem pay32_eq (w : Vec F S16x2x16x512 .f32) (y : S1x2x16x512.Idx) :
    k0_pay32 (k0_pay31 (k0_pay29 w)) y = k0_pay30 w (Shape.reshapeEquiv shapeCasts_S2x16x512_S1x2x16x512 y) := by
  unfold k0_pay32 k0_pay31 k0_pay30; rw [shapeCast_self, shapeCast_self]; rfl

/-- The slot of an element, through the piece without the leading axis. -/
theorem gath_own (A : Dev nD → Vec F S2x256x4096 .bf16) (c : Dev nD) (y : S1x2x256x256.Idx) :
    A c ((ownCols c).emb (Shape.reshapeEquiv shapeCasts_S2x256x256_S1x2x256x256 y)) = gath A c ((ownSlot c).emb y) := by
  have e1 := unit_emb (s := S2x256x4096) (size := S2x256x256.size) (off' := ![0, 0, 256 * c.val]) (k0_off5_eq c) (k0_off5_inb c)
    (by revert c; decide) (Shape.reshapeEquiv shapeCasts_S2x256x256_S1x2x256x256 y)
  have e2 := unit_emb (s := S16x2x256x256) (size := S1x2x256x256.size) (off' := ![c.val, 0, 0, 0]) (k0_off6_eq c) (k0_off6_inb c) (by clear e1; revert c; decide) y
  have e3 := gath_slot A c c (by decide) (Shape.reshapeEquiv shapeCasts_S2x256x256_S1x2x256x256 y)
  rw [Shape.reshapeEquiv_reshapeEquiv, Shape.reshapeEquiv_self] at e3
  exact (congrArg (A c) e1).trans (e3.symm.trans (congrArg (gath A c) e2.symm))

theorem spread_own (A : Dev nD → Vec F S2x256x512 .f32) (c : Dev nD) (y : S1x2x16x512.Idx) :
    A c ((ownRows c).emb (Shape.reshapeEquiv shapeCasts_S2x16x512_S1x2x16x512 y)) = spread A c ((ownChunk c).emb y) := by
  have e1 := unit_emb (s := S2x256x512) (size := S2x16x512.size) (off' := ![0, 16 * c.val, 0]) (k0_off11_eq c) (k0_off11_inb c)
    (by revert c; decide) (Shape.reshapeEquiv shapeCasts_S2x16x512_S1x2x16x512 y)
  have e2 := unit_emb (s := S16x2x16x512) (size := S1x2x16x512.size) (off' := ![c.val, 0, 0, 0]) (k0_off12_eq c) (k0_off12_inb c) (by clear e1; revert c; decide) y
  have e3 := spread_slot A c c (by decide) (Shape.reshapeEquiv shapeCasts_S2x16x512_S1x2x16x512 y)
  rw [Shape.reshapeEquiv_reshapeEquiv, Shape.reshapeEquiv_self] at e3
  exact (congrArg (A c) e1).trans (e3.symm.trans (congrArg (spread A c) e2.symm))

theorem collect_own (A : Dev nD → Vec F S2x16x512 .f32) (c : Dev nD) (y : S1x2x16x512.Idx) :
    A c (Shape.reshapeEquiv shapeCasts_S2x16x512_S1x2x16x512 y) = collect A ((ownChunk c).emb y) := by
  have e2 := unit_emb (s := S16x2x16x512) (size := S1x2x16x512.size) (off' := ![c.val, 0, 0, 0]) (k0_off12_eq c) (k0_off12_inb c) (by revert c; decide) y
  have e3 := collect_slot A c (by decide) (Shape.reshapeEquiv shapeCasts_S2x16x512_S1x2x16x512 y)
  rw [Shape.reshapeEquiv_reshapeEquiv, Shape.reshapeEquiv_self] at e3
  exact e3.symm.trans (congrArg (collect A) e2.symm)

theorem kg_own_set (c : Dev nD) : (kgM.access (ownSlot c)).set = (slotRect c).set :=
  (View.set_slice_whole cc0_scratch0 (ownSlot c)).trans (by rw [ownSlot_eq])
theorem vg_own_set (c : Dev nD) : (vgM.access (ownSlot c)).set = (slotRect c).set :=
  (View.set_slice_whole cc0_scratch1 (ownSlot c)).trans (by rw [ownSlot_eq])
theorem rs_own_set (c : Dev nD) : (rsM.access (ownChunk c)).set = (chunkRect c).set :=
  (View.set_slice_whole cc0_scratch3 (ownChunk c)).trans (by rw [ownChunk_eq])
theorem ag_own_set (c : Dev nD) : (agM.access (ownChunk c)).set = (chunkRect c).set :=
  (View.set_slice_whole cc0_scratch5 (ownChunk c)).trans (by rw [ownChunk_eq])

theorem k_read (f : (cc0_stg2_0 : Ref sig .tc).ty.Contents (Elt F)) (r : Rect S2x256x4096) (y : r.shape.Idx) :
    kM.view.readAt (Elt F) r.toLoadRect f y = f (r.emb y) := rfl
theorem v_read (f : (cc0_stg3_0 : Ref sig .tc).ty.Contents (Elt F)) (r : Rect S2x256x4096) (y : r.shape.Idx) :
    vM.view.readAt (Elt F) r.toLoadRect f y = f (r.emb y) := rfl
theorem po_read (f : (cc0_scratch2 : Ref sig .tc).ty.Contents (Elt F)) (r : Rect S2x256x512) (y : r.shape.Idx) :
    poM.view.readAt (Elt F) r.toLoadRect f y = f (r.emb y) := rfl

theorem kg_own (A : Dev nD → Vec F S2x256x4096 .bf16) (c : Dev nD) (fd : (cc0_scratch0 : Ref sig .tc).ty.Contents (Elt F)) (w : Vec F S2x256x256 .bf16)
    (hw : ∀ y, w y = A c ((ownCols c).emb y)) :
    ∀ i ∈ (slotRect c).set, (kgM.access (ownSlot c)).write (Elt F) fd (k0_pay1 w) Finset.univ i = gath A c i := by
  rw [← kg_own_set]
  exact write_on (kgM.access (ownSlot c)) fd _ (gath A c) fun y => (pay1_eq w y).trans ((hw _).trans (gath_own A c y))

theorem vg_own (A : Dev nD → Vec F S2x256x4096 .bf16) (c : Dev nD) (fd : (cc0_scratch1 : Ref sig .tc).ty.Contents (Elt F)) (w : Vec F S2x256x256 .bf16)
    (hw : ∀ y, w y = A c ((ownCols c).emb y)) :
    ∀ i ∈ (slotRect c).set, (vgM.access (ownSlot c)).write (Elt F) fd (k0_pay2 w) Finset.univ i = gath A c i := by
  rw [← vg_own_set]
  exact write_on (vgM.access (ownSlot c)) fd _ (gath A c) fun y => (pay2_eq w y).trans ((hw _).trans (gath_own A c y))

theorem rs_own (A : Dev nD → Vec F S2x256x512 .f32) (c : Dev nD) (fd : (cc0_scratch3 : Ref sig .tc).ty.Contents (Elt F)) (w : Vec F S2x16x512 .f32)
    (hw : ∀ y, w y = A c ((ownRows c).emb y)) :
    ∀ i ∈ (chunkRect c).set, (rsM.access (ownChunk c)).write (Elt F) fd (k0_pay28 w) Finset.univ i = spread A c i := by
  rw [← rs_own_set]
  exact write_on (rsM.access (ownChunk c)) fd _ (spread A c) fun y => (pay28_eq w y).trans ((hw _).trans (spread_own A c y))

theorem ag_own (A : Dev nD → Vec F S16x2x16x512 .f32) (c : Dev nD) (fd : (cc0_scratch5 : Ref sig .tc).ty.Contents (Elt F)) :
    ∀ i ∈ (chunkRect c).set, (agM.access (ownChunk c)).write (Elt F) fd (k0_pay32 (k0_pay31 (k0_pay29 (A c)))) Finset.univ i = collect (fun d => k0_pay30 (A d)) i := by
  rw [← ag_own_set]
  exact write_on (agM.access (ownChunk c)) fd _ (collect fun d => k0_pay30 (A d)) fun y => (pay32_eq _ y).trans (collect_own (fun d => k0_pay30 (A d)) c y)

end Cert.KernelIdeal.Own

end
-- ==== Proof.Exchange.lean ====
/- The rounds of the three exchanges and of the entry barrier, each as one loop. -/
module

public import proofs.«01_k».proof.Proof.Landing

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

variable (I : Inputs F) (κ : GSem nD τ sig → ℕ) (c : Dev nD)

/-- A slot of device `p`'s buffer that device `c` may overwrite. -/
abbrev kgSlot (p c : Dev nD) : sProp 𝕄 := iprop(∃ f, pts (F := F) p cc0_scratch0 (slotRect c).set fullShare f)
abbrev vgSlot (p c : Dev nD) : sProp 𝕄 := iprop(∃ f, pts (F := F) p cc0_scratch1 (slotRect c).set fullShare f)
abbrev rsSlot (p c : Dev nD) : sProp 𝕄 := iprop(∃ f, pts (F := F) p cc0_scratch3 (chunkRect c).set fullShare f)
abbrev agSlot (p c : Dev nD) : sProp 𝕄 := iprop(∃ f, pts (F := F) p cc0_scratch5 (chunkRect c).set fullShare f)

/-- What a wait on a cell takes beside what is owed, and what it gives. -/
def waitPre (a : Fin 8) (c i : Dev nD) : sProp 𝕄 := iprop(cred (tallyAt (cell a c i) () (words a)) ∗ atPos (ER (F := F)) (cell a c i) 0 ∅ 0)
def waitPost (a : Fin 8) (c i : Dev nD) : sProp 𝕄 := iprop(atPos (ER (F := F)) (cell a c i) 1 ∅ 0 ∗ pay I a c i)

/-! ## One copy -/

theorem k_send (k : Fin 15) (O : CellTallies nD τ sig Unit) (p : Prog (Eff F) PUnit) (Q : PUnit → sProp 𝕄) :
    iprop(known I κ ∗ owing c (O + owe 1 c k) ∗ (pay I 0 c (peer c k) ∗ kgSlot (F := F) (peer c k) c ∗ tokens (F := F) 0 1 c (peer c k))
        ∗ ((owing c O ∗ cred (tallyAt (cell 0 c (peer c k)) () (words 0))) -∗ wpc c p Q))
      ⊢ wpc c (kvSend kM (Memref.isWhole_whole _) kgM (Memref.isWhole_whole _) (arr 0) (arr 1) kDev c k >>= fun _ => p) Q := by
  unfold kvSend
  simp only [Prog.lift, Prog.bind_op, Prog.bind_ret]
  exact send_step I κ 0 1 rfl c (peer c k) (kDev c k) (kDev_eq c k) (peer_ne c k) O (peerCols kM c k) (slotAt kgM c) _ _
    (outSem_eq 0 c k) (landSem_eq 1 c) _ _ _ _ rfl fullShare (I.k c) _ (by rw [kM_cols]; rfl) (by rw [kgM_slot]) (k_land I c k) (fun _ => p) Q

theorem v_send (k : Fin 15) (O : CellTallies nD τ sig Unit) (p : Prog (Eff F) PUnit) (Q : PUnit → sProp 𝕄) :
    iprop(known I κ ∗ owing c (O + owe 3 c k) ∗ (pay I 2 c (peer c k) ∗ vgSlot (F := F) (peer c k) c ∗ tokens (F := F) 2 3 c (peer c k))
        ∗ ((owing c O ∗ cred (tallyAt (cell 2 c (peer c k)) () (words 2))) -∗ wpc c p Q))
      ⊢ wpc c (kvSend vM (Memref.isWhole_whole _) vgM (Memref.isWhole_whole _) (arr 2) (arr 3) vDev c k >>= fun _ => p) Q := by
  unfold kvSend
  simp only [Prog.lift, Prog.bind_op, Prog.bind_ret]
  exact send_step I κ 2 3 rfl c (peer c k) (vDev c k) (vDev_eq c k) (peer_ne c k) O (peerCols vM c k) (slotAt vgM c) _ _
    (outSem_eq 2 c k) (landSem_eq 3 c) _ _ _ _ rfl fullShare (I.v c) _ (by rw [vM_cols]; rfl) (by rw [vgM_slot]) (v_land I c k) (fun _ => p) Q

theorem rs_send (k : Fin 15) (O : CellTallies nD τ sig Unit) (p : Prog (Eff F) PUnit) (Q : PUnit → sProp 𝕄) :
    iprop(known I κ ∗ owing c (O + owe 5 c k) ∗ (pay I 4 c (peer c k) ∗ rsSlot (F := F) (peer c k) c ∗ tokens (F := F) 4 5 c (peer c k))
        ∗ ((owing c O ∗ cred (tallyAt (cell 4 c (peer c k)) () (words 4))) -∗ wpc c p Q))
      ⊢ wpc c (rsSend poM rsM (arr 4) (arr 5) c k >>= fun _ => p) Q := by
  unfold rsSend
  simp only [Prog.lift, Prog.bind_op, Prog.bind_ret]
  exact send_step I κ 4 5 rfl c (peer c k) (rsDev c k) (rsDev_eq c k) (peer_ne c k) O (peerRows poM c k) (chunkAt rsM c) _ _
    (outSem_eq 4 c k) (landSem_eq 5 c) _ _ _ _ rfl fullShare (part I c) _ (by rw [poM_rows]; rfl) (by rw [rsM_chunk]) (rs_land I c k) (fun _ => p) Q

theorem ag_send (k : Fin 15) (O : CellTallies nD τ sig Unit) (p : Prog (Eff F) PUnit) (Q : PUnit → sProp 𝕄) :
    iprop(known I κ ∗ owing c (O + owe 7 c k) ∗ (pay I 6 c (peer c k) ∗ agSlot (F := F) (peer c k) c ∗ tokens (F := F) 6 7 c (peer c k))
        ∗ ((owing c O ∗ cred (tallyAt (cell 6 c (peer c k)) () (words 6))) -∗ wpc c p Q))
      ⊢ wpc c (agSend redM (Memref.isWhole_whole _) agM (arr 6) (arr 7) c k >>= fun _ => p) Q := by
  unfold agSend
  simp only [Prog.lift, Prog.bind_op, Prog.bind_ret]
  exact send_step I κ 6 7 rfl c (peer c k) (agDev c k) (agDev_eq c k) (peer_ne c k) O redM (chunkAt agM c) _ _
    (outSem_eq 6 c k) (landSem_eq 7 c) _ _ _ _ rfl (ShareLeaves.leaf 4 fullShare (peer c k)) (reduced I c) _
    (by rw [View.set_whole]; rfl) (by rw [agM_chunk]) (ag_land I c (peer c k)) (fun _ => p) Q

/-! ## One wait -/

/-- The wait for a copy, in the form that every round of the six waiting loops has. -/
theorem wait_at (a : Fin 8) (i : Dev nD) (h : i ≠ c) (O : CellTallies nD τ sig Unit) (n : ℕ)
    (hn : (![0, 2, 0, 2, 0, 3, 0, 4] : Fin 8 → ℕ) a ≤ n) (hO : Above n O) {sp sp' : Space} {s : Shape} {e : EltTy}
    (sm : DmaSem sig) (hsm : sm = dsem a i) (src : Memref sig .tc sp s e) (dst : Memref sig .tc sp' s e) (hs hd)
    (hw : dst.view.dmaCredit = words a) (p : Prog (Eff F) PUnit) (Q : PUnit → sProp 𝕄) :
    iprop(known I κ ∗ owing c O ∗ waitPre (F := F) a c i ∗ ((owing c O ∗ waitPost I a c i) -∗ wpc c p Q))
      ⊢ wpc c (Prog.lift (.waitDma2 sm src dst hs hd) >>= fun _ => p) Q := by
  simp only [Prog.lift, Prog.bind_op, Prog.bind_ret]
  exact wait_step I κ a c i h O n hn hO sm hsm src dst hs hd hw (fun _ => p) Q

/-! ## The loops -/

/-- The entry barrier's signals: a device hands each peer its slots of the four gathering buffers. -/
theorem sig_loop (rest : Prog (Eff F) PUnit) (Q : PUnit → sProp 𝕄) :
    iprop(known I κ ∗ owing c (due0 c rounds)
        ∗ (bigSep (Finset.univ : Finset (Fin 15)) fun k => iprop(dutyTok (ER (F := F)) (bar (peer c k)) 0 c ∗ landing (F := F) c (peer c k) ∗ ready (F := F) c (peer c k)))
        ∗ (owing c (due1 c rounds) -∗ wpc c rest Q))
      ⊢ wpc c (seqL (sigStep c) rounds rest) Q := by
  refine BI.Entails.trans ?_ (wp_rounds c (known I κ) (sigStep c) (fun l => owing c (due0 c l))
    (fun k => iprop(dutyTok (ER (F := F)) (bar (peer c k)) 0 c ∗ landing (F := F) c (peer c k) ∗ ready (F := F) c (peer c k))) (fun _ => iprop(emp)) ?_ rest Q)
  · show (BIBase.Entails (_ : sProp 𝕄) _)
    iintro ⟨#HP, HO, HA, Hk⟩
    isplitr; · iexact HP
    isplitl [HO]; · iexact HO
    isplitl [HA]; · iexact HA
    iintro ⟨HO, -⟩
    iapply Hk; iexact HO
  · intro k l p Q
    unfold sigStep
    simp only [semSignalWord, Prog.lift, Prog.bind_op, Prog.bind_ret, sigDev_eq]
    iintro ⟨#HP, HO, HA, Hk⟩
    iapply (sig_step I κ c (peer c k) (peer_ne c k).symm (due0 c l) (fun _ => p) Q)
    isplitr; · iexact HP
    isplitl [HO]; · iexact HO
    isplitl [HA]; · iexact HA
    iintro HO
    iapply Hk
    isplitl [HO]; · iexact HO
    iempintro

/-- A loop of sends, from one send. -/
theorem send_loop (a b : Fin 8) (f : Fin 15 → Prog (Eff F) PUnit) (D : Dev nD → sProp 𝕄) (O : CellTallies nD τ sig Unit)
    (one : ∀ k O p Q, iprop(known I κ ∗ owing c (O + owe b c k) ∗ (pay I a c (peer c k) ∗ D (peer c k) ∗ tokens (F := F) a b c (peer c k))
        ∗ ((owing c O ∗ cred (tallyAt (cell a c (peer c k)) () (words a))) -∗ wpc c p Q)) ⊢ wpc c (f k >>= fun _ => p) Q)
    (rest : Prog (Eff F) PUnit) (Q : PUnit → sProp 𝕄) :
    iprop(known I κ ∗ owing c (due (owe b c) O rounds)
        ∗ (bigSep (Finset.univ : Finset (Fin 15)) fun k => iprop(pay I a c (peer c k) ∗ D (peer c k) ∗ tokens (F := F) a b c (peer c k)))
        ∗ ((owing c O ∗ bigSep (Finset.univ : Finset (Fin 15)) fun k => cred (tallyAt (cell a c (peer c k)) () (words a))) -∗ wpc c rest Q))
      ⊢ wpc c (seqL f rounds rest) Q :=
  wp_rounds c (known I κ) f (fun l => owing c (due (owe b c) O l)) _ _ (fun k l p Q => one k (due (owe b c) O l) p Q) rest Q

/-- A loop of waits, from one wait. -/
theorem wait_loop (a : Fin 8) (at' : Fin 15 → Dev nD) (f : Fin 15 → Prog (Eff F) PUnit) (O : CellTallies nD τ sig Unit)
    (one : ∀ k p Q, iprop(known I κ ∗ owing c O ∗ waitPre (F := F) a c (at' k) ∗ ((owing c O ∗ waitPost I a c (at' k)) -∗ wpc c p Q)) ⊢ wpc c (f k >>= fun _ => p) Q)
    (rest : Prog (Eff F) PUnit) (Q : PUnit → sProp 𝕄) :
    iprop(known I κ ∗ owing c O ∗ (bigSep (Finset.univ : Finset (Fin 15)) fun k => waitPre (F := F) a c (at' k))
        ∗ ((owing c O ∗ bigSep (Finset.univ : Finset (Fin 15)) fun k => waitPost I a c (at' k)) -∗ wpc c rest Q))
      ⊢ wpc c (seqL f rounds rest) Q :=
  wp_rounds c (known I κ) f (fun _ => owing c O) _ _ (fun k l p Q => one k p Q) rest Q

/-- The copies of the keys and values. -/
theorem kv_sends (rest : Prog (Eff F) PUnit) (Q : PUnit → sProp 𝕄) :
    iprop(known I κ ∗ owing c (due1 c rounds)
        ∗ (bigSep (Finset.univ : Finset (Fin 15)) fun k => iprop((pay I 0 c (peer c k) ∗ kgSlot (F := F) (peer c k) c ∗ tokens (F := F) 0 1 c (peer c k))
            ∗ (pay I 2 c (peer c k) ∗ vgSlot (F := F) (peer c k) c ∗ tokens (F := F) 2 3 c (peer c k))))
        ∗ ((owing c (due2 c rounds) ∗ bigSep (Finset.univ : Finset (Fin 15)) fun k =>
            iprop(cred (tallyAt (cell 0 c (peer c k)) () (words 0)) ∗ cred (tallyAt (cell 2 c (peer c k)) () (words 2)))) -∗ wpc c rest Q))
      ⊢ wpc c (seqL (fun k => kvSend kM (Memref.isWhole_whole _) kgM (Memref.isWhole_whole _) (arr 0) (arr 1) kDev c k >>= fun _ =>
          kvSend vM (Memref.isWhole_whole _) vgM (Memref.isWhole_whole _) (arr 2) (arr 3) vDev c k) rounds rest) Q := by
  refine wp_rounds c (known I κ) _ (fun l => owing c (due1 c l)) _ _ (fun k l p Q => ?_) rest Q
  rw [Prog.bind_assoc]
  show iprop(_ ∗ owing c (due1 c l + (owe 3 c k + owe 1 c k)) ∗ _ ∗ _) ⊢ _
  rw [← add_assoc]
  iintro ⟨#HP, HO, ⟨HA, HB⟩, Hk⟩
  iapply (k_send I κ c k (due1 c l + owe 3 c k) _ Q)
  isplitr; · iexact HP
  isplitl [HO]; · iexact HO
  isplitl [HA]; · iexact HA
  iintro ⟨HO, H0⟩
  iapply (v_send I κ c k (due1 c l) p Q)
  isplitr; · iexact HP
  isplitl [HO]; · iexact HO
  isplitl [HB]; · iexact HB
  iintro ⟨HO, H2⟩
  iapply Hk
  isplitl [HO]; · iexact HO
  isplitl [H0]; · iexact H0
  iexact H2

/-- Two waits in each round. -/
theorem pair_loop (a b : Fin 8) (at' : Fin 15 → Dev nD) (f g : Fin 15 → Prog (Eff F) PUnit) (O : CellTallies nD τ sig Unit)
    (one : ∀ k p Q, iprop(known I κ ∗ owing c O ∗ waitPre (F := F) a c (at' k) ∗ ((owing c O ∗ waitPost I a c (at' k)) -∗ wpc c p Q)) ⊢ wpc c (f k >>= fun _ => p) Q)
    (two : ∀ k p Q, iprop(known I κ ∗ owing c O ∗ waitPre (F := F) b c (at' k) ∗ ((owing c O ∗ waitPost I b c (at' k)) -∗ wpc c p Q)) ⊢ wpc c (g k >>= fun _ => p) Q)
    (rest : Prog (Eff F) PUnit) (Q : PUnit → sProp 𝕄) :
    iprop(known I κ ∗ owing c O ∗ (bigSep (Finset.univ : Finset (Fin 15)) fun k => iprop(waitPre (F := F) a c (at' k) ∗ waitPre (F := F) b c (at' k)))
        ∗ ((owing c O ∗ bigSep (Finset.univ : Finset (Fin 15)) fun k => iprop(waitPost I a c (at' k) ∗ waitPost I b c (at' k))) -∗ wpc c rest Q))
      ⊢ wpc c (seqL (fun k => f k >>= fun _ => g k) rounds rest) Q := by
  refine wp_rounds c (known I κ) _ (fun _ => owing c O) _ _ (fun k l p Q => ?_) rest Q
  rw [Prog.bind_assoc]
  iintro ⟨#HP, HO, ⟨HA, HB⟩, Hk⟩
  iapply (one k _ Q)
  isplitr; · iexact HP
  isplitl [HO]; · iexact HO
  isplitl [HA]; · iexact HA
  iintro ⟨HO, H0⟩
  iapply (two k p Q)
  isplitr; · iexact HP
  isplitl [HO]; · iexact HO
  isplitl [HB]; · iexact HB
  iintro ⟨HO, H2⟩
  iapply Hk
  isplitl [HO]; · iexact HO
  isplitl [H0]; · iexact H0
  iexact H2

end Cert.KernelIdeal.Own

end
-- ==== Proof.Memory.lean ====
/- Loads and stores on pieces of a buffer, and a buffer as its sixteen pieces. -/
module

public import proofs.«01_k».proof.Proof.Exchange

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

/-! ## Families -/

theorem pack {A B : Fin 15 → sProp 𝕄} : iprop(bigSep Finset.univ A ∗ bigSep Finset.univ B) ⊢ bigSep Finset.univ fun k => iprop(A k ∗ B k) :=
  Entails.of_eq (bigSep_sep' _ _ _).symm
theorem unpack {A B : Fin 15 → sProp 𝕄} : (bigSep Finset.univ fun k => iprop(A k ∗ B k)) ⊢ iprop(bigSep Finset.univ A ∗ bigSep Finset.univ B) :=
  Entails.of_eq (bigSep_sep' _ _ _)
theorem pack3 {A B C : Fin 15 → sProp 𝕄} : iprop(bigSep Finset.univ A ∗ bigSep Finset.univ B ∗ bigSep Finset.univ C)
    ⊢ bigSep Finset.univ fun k => iprop(A k ∗ B k ∗ C k) :=
  Entails.of_eq (by rw [bigSep_sep', bigSep_sep'])

/-! ## Pieces of a buffer -/

section

variable {ℓ : Loc nD τ sig} (K : Fin 16 → Finset (Idx ℓ)) (hd : ∀ t ∈ (Finset.univ : Finset (Fin 16)), ∀ t' ∈ (Finset.univ : Finset (Fin 16)), t ≠ t' → Disjoint (K t) (K t'))
  (hu : (Finset.univ : Finset (Fin 16)).biUnion K = Finset.univ) (c : Dev nD)

include hd hu

theorem pieces (q : PosShare TreeShare) (f : Buf (Elt F) ℓ) : (ℓ ↦{q} f : sProp 𝕄) = bigSep Finset.univ fun t => ℓ ↦[K t]{q} f := by
  rw [← hu]; exact pointsTo_biUnion _ K hd

/-- A buffer is a device's own piece and the pieces of its fifteen peers. -/
theorem pieces_peer (q : PosShare TreeShare) (f : Buf (Elt F) ℓ) :
    (ℓ ↦{q} f : sProp 𝕄) = iprop((ℓ ↦[K c]{q} f) ∗ bigSep (Finset.univ : Finset (Fin 15)) fun k => ℓ ↦[K (peer c k)]{q} f) := by
  rw [pieces K hd hu, bigSep_peer c]
theorem pieces_prev (q : PosShare TreeShare) (f : Buf (Elt F) ℓ) :
    (ℓ ↦{q} f : sProp 𝕄) = iprop((ℓ ↦[K c]{q} f) ∗ bigSep (Finset.univ : Finset (Fin 15)) fun k => ℓ ↦[K (prev c k)]{q} f) := by
  rw [pieces K hd hu, bigSep_prev c]

theorem pieces_any : (iprop(∃ f, ℓ ↦{fullShare} f) : sProp 𝕄)
    ⊢ iprop((∃ f, ℓ ↦[K c]{fullShare} f) ∗ bigSep (Finset.univ : Finset (Fin 15)) fun k => iprop(∃ f, ℓ ↦[K (peer c k)]{fullShare} f)) := by
  iintro ⟨%f, H⟩
  ihave H := (Entails.of_eq (pieces_peer K hd hu c fullShare f)) $$ H
  icases H with ⟨H, Hs⟩
  isplitl [H]; · iexists f; iexact H
  iapply (show (bigSep (Finset.univ : Finset (Fin 15)) fun k => (ℓ ↦[K (peer c k)]{fullShare} f : sProp 𝕄))
    ⊢ bigSep (Finset.univ : Finset (Fin 15)) fun k => iprop(∃ f, ℓ ↦[K (peer c k)]{fullShare} f) from bigSep_mono fun k _ => by
      show (BIBase.Entails (_ : sProp 𝕄) _)
      iintro H; iexists f; iexact H)
  iexact Hs

end

/-- A buffer as sixteen shares of it. -/
theorem shares {ℓ : Loc nD τ sig} (f : Buf (Elt F) ℓ) (c : Dev nD) : (ℓ ↦{fullShare} f : sProp 𝕄)
    = iprop((ℓ ↦{ShareLeaves.leaf 4 fullShare c} f) ∗ bigSep (Finset.univ : Finset (Fin 15)) fun k => ℓ ↦{ShareLeaves.leaf 4 fullShare (peer c k)} f) := by
  rw [ShareLeaves.pointsTo_leaves Finset.univ f 4 fullShare]
  exact bigSep_peer c (fun i => ℓ ↦{ShareLeaves.leaf 4 fullShare i} f)

theorem slot_disjoint : ∀ t ∈ (Finset.univ : Finset (Fin 16)), ∀ t' ∈ (Finset.univ : Finset (Fin 16)), t ≠ t' → Disjoint (slotRect t).set (slotRect t').set :=
  keyed_disjoint (fun i => (slotRect i).set) (fun x => x 0) mem_slot
theorem slot_univ : (Finset.univ : Finset (Fin 16)).biUnion (fun i => (slotRect i).set) = Finset.univ :=
  keyed_univ (fun i => (slotRect i).set) (fun x => x 0) mem_slot
theorem chunk_disjoint : ∀ t ∈ (Finset.univ : Finset (Fin 16)), ∀ t' ∈ (Finset.univ : Finset (Fin 16)), t ≠ t' → Disjoint (chunkRect t).set (chunkRect t').set :=
  keyed_disjoint (fun i => (chunkRect i).set) (fun x => x 0) mem_chunk
theorem chunk_univ : (Finset.univ : Finset (Fin 16)).biUnion (fun i => (chunkRect i).set) = Finset.univ :=
  keyed_univ (fun i => (chunkRect i).set) (fun x => x 0) mem_chunk
theorem col_disjoint : ∀ t ∈ (Finset.univ : Finset (Fin 16)), ∀ t' ∈ (Finset.univ : Finset (Fin 16)), t ≠ t' → Disjoint (colRect t).set (colRect t').set :=
  keyed_disjoint (fun i => (colRect i).set) colKey mem_col
theorem col_univ : (Finset.univ : Finset (Fin 16)).biUnion (fun i => (colRect i).set) = Finset.univ :=
  keyed_univ (fun i => (colRect i).set) colKey mem_col
theorem row_disjoint : ∀ t ∈ (Finset.univ : Finset (Fin 16)), ∀ t' ∈ (Finset.univ : Finset (Fin 16)), t ≠ t' → Disjoint (rowRect t).set (rowRect t').set :=
  keyed_disjoint (fun i => (rowRect i).set) rowKey mem_row
theorem row_univ : (Finset.univ : Finset (Fin 16)).biUnion (fun i => (rowRect i).set) = Finset.univ :=
  keyed_univ (fun i => (rowRect i).set) rowKey mem_row

variable (I : Inputs F) (c : Dev nD)

/-- The keys as a device's own columns and what its copies carry. -/
theorem k_pieces : (pts c cc0_stg2_0 Finset.univ fullShare (I.k c) : sProp 𝕄)
    = iprop(pts c cc0_stg2_0 (colRect c).set fullShare (I.k c) ∗ bigSep (Finset.univ : Finset (Fin 15)) fun k => pay I 0 c (peer c k)) :=
  pieces_peer (ℓ := (c : Thread nD τ).loc cc0_stg2_0) (fun i => (colRect i).set) col_disjoint col_univ c fullShare (I.k c)
theorem v_pieces : (pts c cc0_stg3_0 Finset.univ fullShare (I.v c) : sProp 𝕄)
    = iprop(pts c cc0_stg3_0 (colRect c).set fullShare (I.v c) ∗ bigSep (Finset.univ : Finset (Fin 15)) fun k => pay I 2 c (peer c k)) :=
  pieces_peer (ℓ := (c : Thread nD τ).loc cc0_stg3_0) (fun i => (colRect i).set) col_disjoint col_univ c fullShare (I.v c)
theorem po_pieces : (pts c cc0_scratch2 Finset.univ fullShare (part I c) : sProp 𝕄)
    = iprop(pts c cc0_scratch2 (rowRect c).set fullShare (part I c) ∗ bigSep (Finset.univ : Finset (Fin 15)) fun k => pay I 4 c (peer c k)) :=
  pieces_peer (ℓ := (c : Thread nD τ).loc cc0_scratch2) (fun i => (rowRect i).set) row_disjoint row_univ c fullShare (part I c)
/-- The gathered buffers as the own slot and what has landed. -/
theorem kg_pieces : (pts c cc0_scratch0 Finset.univ fullShare (gath I.k c) : sProp 𝕄)
    = iprop(pts c cc0_scratch0 (slotRect c).set fullShare (gath I.k c) ∗ bigSep (Finset.univ : Finset (Fin 15)) fun k => pay I 1 c (prev c k)) :=
  pieces_prev (ℓ := (c : Thread nD τ).loc cc0_scratch0) (fun i => (slotRect i).set) slot_disjoint slot_univ c fullShare (gath I.k c)
theorem vg_pieces : (pts c cc0_scratch1 Finset.univ fullShare (gath I.v c) : sProp 𝕄)
    = iprop(pts c cc0_scratch1 (slotRect c).set fullShare (gath I.v c) ∗ bigSep (Finset.univ : Finset (Fin 15)) fun k => pay I 3 c (prev c k)) :=
  pieces_prev (ℓ := (c : Thread nD τ).loc cc0_scratch1) (fun i => (slotRect i).set) slot_disjoint slot_univ c fullShare (gath I.v c)
theorem rs_pieces : (pts c cc0_scratch3 Finset.univ fullShare (chunks I c) : sProp 𝕄)
    = iprop(pts c cc0_scratch3 (chunkRect c).set fullShare (chunks I c) ∗ bigSep (Finset.univ : Finset (Fin 15)) fun k => pay I 5 c (prev c k)) :=
  pieces_prev (ℓ := (c : Thread nD τ).loc cc0_scratch3) (fun i => (chunkRect i).set) chunk_disjoint chunk_univ c fullShare (chunks I c)
theorem ag_pieces : (pts c cc0_scratch5 Finset.univ fullShare (gathered I) : sProp 𝕄)
    = iprop(pts c cc0_scratch5 (chunkRect c).set fullShare (gathered I) ∗ bigSep (Finset.univ : Finset (Fin 15)) fun k => pay I 7 c (prev c k)) :=
  pieces_prev (ℓ := (c : Thread nD τ).loc cc0_scratch5) (fun i => (chunkRect i).set) chunk_disjoint chunk_univ c fullShare (gathered I)
/-- The reduced rows as sixteen shares, one for each peer's copy and one that stays. -/
theorem red_pieces : (pts c cc0_scratch4 Finset.univ fullShare (reduced I c) : sProp 𝕄)
    = iprop(pts c cc0_scratch4 Finset.univ (ShareLeaves.leaf 4 fullShare c) (reduced I c) ∗ bigSep (Finset.univ : Finset (Fin 15)) fun k => pay I 6 c (peer c k)) :=
  shares (ℓ := (c : Thread nD τ).loc cc0_scratch4) (reduced I c) c

/-! ## Loads and stores -/

theorem load_step {cs : CoreSpace} {s : Shape} {e : EltTy} (m : Memref sig .tc cs s e) (r : Rect s) (hl : m.view.LoadsAt r.toLoadRect)
    (S : Finset (Idx (m.view.loc (c : Thread nD τ)))) (q : PosShare TreeShare) (f : Buf (Elt F) (m.view.loc (c : Thread nD τ))) (hS : (m.access r).set ⊆ S)
    (v : r.shape.Idx → Elt F e) (hv : m.view.readAt (Elt F) r.toLoadRect f = v) (p : (r.shape.Idx → Elt F e) → Prog (Eff F) PUnit) (Q : PUnit → sProp 𝕄) :
    iprop((m.view.loc (c : Thread nD τ) ↦[S]{q} f) ∗ ((m.view.loc (c : Thread nD τ) ↦[S]{q} f) -∗ wpc c (p v) Q))
      ⊢ wpc c (Prog.lift (.load m r.toLoadRect hl) >>= p) Q := by
  subst hv
  simp only [Prog.lift, Prog.bind_op, Prog.bind_ret]
  iintro ⟨H, Hk⟩
  iapply (wp_load 𝒱₀ (c : Thread nD τ) none Set.univ (m := m) (r := r.toLoadRect) (hl := hl) (S := S) (q := q) (f := f) (by rwa [View.set_slice] at hS)) $$ H
  iexact Hk

/-- A load whose value is not used, then a store over the same elements. -/
theorem over_step {cs : CoreSpace} {s : Shape} {e : EltTy} (m : Memref sig .tc cs s e) (r : Rect s) (hl : m.view.LoadsAt r.toLoadRect)
    (S : Finset (Idx (m.view.loc (c : Thread nD τ)))) (hS : (m.access r).set ⊆ S) (w : r.shape.Idx → Elt F e) (hx : (m.access r).Stores Finset.univ) (hm)
    (g : Buf (Elt F) (m.view.loc (c : Thread nD τ))) (hg : ∀ f, ∀ i ∈ S, (m.access r).write (Elt F) f w Finset.univ i = g i)
    (p : Prog (Eff F) PUnit) (Q : PUnit → sProp 𝕄) :
    iprop((∃ f, m.view.loc (c : Thread nD τ) ↦[S]{fullShare} f) ∗ ((m.view.loc (c : Thread nD τ) ↦[S]{fullShare} g) -∗ wpc c p Q))
      ⊢ wpc c (Prog.lift (.load m r.toLoadRect hl) >>= fun _ => Prog.lift (.store m r w Finset.univ hx hm) >>= fun _ => p) Q := by
  simp only [Prog.lift, Prog.bind_op, Prog.bind_ret]
  iintro ⟨⟨%f, H⟩, Hk⟩
  iapply (wp_load 𝒱₀ (c : Thread nD τ) none Set.univ (m := m) (r := r.toLoadRect) (hl := hl) (S := S) (q := fullShare) (f := f) (by rwa [View.set_slice] at hS)) $$ H
  iintro H
  iapply (wp_store 𝒱₀ (c : Thread nD τ) none Set.univ (m := m) (r := r) (w := w) (Mk := Finset.univ) (hx := hx) (hm := hm) (S := S) (f := f) hS) $$ H
  iintro H
  iapply Hk
  iapply (Entails.of_eq (pointsTo_congr (hg f)))
  iexact H

end Cert.KernelIdeal.Own

end
-- ==== Proof.Phases.lean ====
/- The body cut into its phases. -/
module

public import proofs.«01_k».proof.Proof.Memory

@[expose] public section

set_option synthInstance.maxSize 4096

noncomputable section

namespace Cert.KernelIdeal.Own

open Idealize.ShloMosaic Idealize.ShloMosaic.TcCoe Idealize.SL.Sem
open Cert.KernelIdeal Cert.KernelIdeal.Gen

variable {F : FTy → Type} [FloatOps F]

/-- The entry barrier. -/
def enter (c : Dev nD) (rest : Prog (Eff F) PUnit) : Prog (Eff F) PUnit :=
  seqL (sigStep c) rounds <|
  semWaitWord barrierSem 15#32 >>= fun _ =>
  rest

/-- The exchange of the keys and values, with the loads of the other inputs. -/
def gatherKV (c : Dev nD) (rest : Vec F S2x256x512 .bf16 → Vec F S512x256 .bf16 → Vec F S256x512 .bf16 → Prog (Eff F) PUnit) : Prog (Eff F) PUnit :=
  seqL (fun k => kvSend kM (Memref.isWhole_whole _) kgM (Memref.isWhole_whole _) (arr 0) (arr 1) kDev c k >>= fun _ =>
    kvSend vM (Memref.isWhole_whole _) vgM (Memref.isWhole_whole _) (arr 2) (arr 3) vDev c k) rounds <|
  Prog.lift (.load kM (ownCols c).toLoadRect (View.loadsAt_vmem h_S2x256x256)) >>= fun kOwn =>
  Prog.lift (.load kgM (ownSlot c).toLoadRect (View.loadsAt_vmem h_S1x2x256x256)) >>= fun _ =>
  Prog.lift (.store kgM (ownSlot c) (k0_pay1 kOwn) Finset.univ (View.stores_vmem h_S1x2x256x256 ((Memref.isWhole_whole _).storeExact_slice rfl _ (k0_off6_packedbf16 c)) (fun _ => rfl)) (.inl rfl)) >>= fun _ =>
  Prog.lift (.load vM (ownCols c).toLoadRect (View.loadsAt_vmem h_S2x256x256)) >>= fun vOwn =>
  Prog.lift (.load vgM (ownSlot c).toLoadRect (View.loadsAt_vmem h_S1x2x256x256)) >>= fun _ =>
  Prog.lift (.store vgM (ownSlot c) (k0_pay2 vOwn) Finset.univ (View.stores_vmem h_S1x2x256x256 ((Memref.isWhole_whole _).storeExact_slice rfl _ (k0_off6_packedbf16 c)) (fun _ => rfl)) (.inl rfl)) >>= fun _ =>
  Prog.lift (.load xM (Rect.unit (s := S2x256x512) ![0, 0, 0] S2x256x512.size inb_S2x256x512_S2x256x512_0_0_0).toLoadRect (View.loadsAt_vmem h_S2x256x512)) >>= fun x =>
  Prog.lift (.load wqM (Rect.unit (s := S512x256) ![0, 0] S512x256.size inb_S512x256_S512x256_0_0).toLoadRect (View.loadsAt_vmem h_S512x256)) >>= fun wq =>
  Prog.lift (.load woM (Rect.unit (s := S256x512) ![0, 0] S256x512.size inb_S256x512_S256x512_0_0).toLoadRect (View.loadsAt_vmem h_S256x512)) >>= fun wo =>
  seqL (fun k => kvRecv kM (Memref.isWhole_whole _) kgM (Memref.isWhole_whole _) (arr 1) c k >>= fun _ =>
    kvRecv vM (Memref.isWhole_whole _) vgM (Memref.isWhole_whole _) (arr 3) c k) rounds <|
  seqL (fun k => kvDone kM (Memref.isWhole_whole _) kgM (Memref.isWhole_whole _) (arr 0) c k >>= fun _ =>
    kvDone vM (Memref.isWhole_whole _) vgM (Memref.isWhole_whole _) (arr 2) c k) rounds <|
  rest x wq wo

/-- The heads. -/
def compute (c : Dev nD) (x : Vec F S2x256x512 .bf16) (wq : Vec F S512x256 .bf16) (wo : Vec F S256x512 .bf16) (rest : Prog (Eff F) PUnit) : Prog (Eff F) PUnit :=
  Prog.lift (.load kgM (Rect.unit (s := S16x2x256x256) ![0, 0, 0, 0] S16x1x256x64.size inb_S16x2x256x256_S16x1x256x64_0_0_0_0).toLoadRect (View.loadsAt_vmem h_S16x1x256x64)) >>= fun kk00 =>
  Prog.lift (.load vgM (Rect.unit (s := S16x2x256x256) ![0, 0, 0, 0] S16x1x256x64.size inb_S16x2x256x256_S16x1x256x64_0_0_0_0).toLoadRect (View.loadsAt_vmem h_S16x1x256x64)) >>= fun vv00 =>
  Prog.lift (.load kgM (Rect.unit (s := S16x2x256x256) ![0, 0, 0, 64] S16x1x256x64.size inb_S16x2x256x256_S16x1x256x64_0_0_0_64).toLoadRect (View.loadsAt_vmem h_S16x1x256x64)) >>= fun kk01 =>
  Prog.lift (.load vgM (Rect.unit (s := S16x2x256x256) ![0, 0, 0, 64] S16x1x256x64.size inb_S16x2x256x256_S16x1x256x64_0_0_0_64).toLoadRect (View.loadsAt_vmem h_S16x1x256x64)) >>= fun vv01 =>
  Prog.lift (.load kgM (Rect.unit (s := S16x2x256x256) ![0, 0, 0, 128] S16x1x256x64.size inb_S16x2x256x256_S16x1x256x64_0_0_0_128).toLoadRect (View.loadsAt_vmem h_S16x1x256x64)) >>= fun kk02 =>
  Prog.lift (.load vgM (Rect.unit (s := S16x2x256x256) ![0, 0, 0, 128] S16x1x256x64.size inb_S16x2x256x256_S16x1x256x64_0_0_0_128).toLoadRect (View.loadsAt_vmem h_S16x1x256x64)) >>= fun vv02 =>
  Prog.lift (.load kgM (Rect.unit (s := S16x2x256x256) ![0, 0, 0, 192] S16x1x256x64.size inb_S16x2x256x256_S16x1x256x64_0_0_0_192).toLoadRect (View.loadsAt_vmem h_S16x1x256x64)) >>= fun kk03 =>
  Prog.lift (.load vgM (Rect.unit (s := S16x2x256x256) ![0, 0, 0, 192] S16x1x256x64.size inb_S16x2x256x256_S16x1x256x64_0_0_0_192).toLoadRect (View.loadsAt_vmem h_S16x1x256x64)) >>= fun vv03 =>
  Prog.lift (.load kgM (Rect.unit (s := S16x2x256x256) ![0, 1, 0, 0] S16x1x256x64.size inb_S16x2x256x256_S16x1x256x64_0_1_0_0).toLoadRect (View.loadsAt_vmem h_S16x1x256x64)) >>= fun kk10 =>
  Prog.lift (.load vgM (Rect.unit (s := S16x2x256x256) ![0, 1, 0, 0] S16x1x256x64.size inb_S16x2x256x256_S16x1x256x64_0_1_0_0).toLoadRect (View.loadsAt_vmem h_S16x1x256x64)) >>= fun vv10 =>
  Prog.lift (.load kgM (Rect.unit (s := S16x2x256x256) ![0, 1, 0, 64] S16x1x256x64.size inb_S16x2x256x256_S16x1x256x64_0_1_0_64).toLoadRect (View.loadsAt_vmem h_S16x1x256x64)) >>= fun kk11 =>
  Prog.lift (.load vgM (Rect.unit (s := S16x2x256x256) ![0, 1, 0, 64] S16x1x256x64.size inb_S16x2x256x256_S16x1x256x64_0_1_0_64).toLoadRect (View.loadsAt_vmem h_S16x1x256x64)) >>= fun vv11 =>
  Prog.lift (.load kgM (Rect.unit (s := S16x2x256x256) ![0, 1, 0, 128] S16x1x256x64.size inb_S16x2x256x256_S16x1x256x64_0_1_0_128).toLoadRect (View.loadsAt_vmem h_S16x1x256x64)) >>= fun kk12 =>
  Prog.lift (.load vgM (Rect.unit (s := S16x2x256x256) ![0, 1, 0, 128] S16x1x256x64.size inb_S16x2x256x256_S16x1x256x64_0_1_0_128).toLoadRect (View.loadsAt_vmem h_S16x1x256x64)) >>= fun vv12 =>
  Prog.lift (.load kgM (Rect.unit (s := S16x2x256x256) ![0, 1, 0, 192] S16x1x256x64.size inb_S16x2x256x256_S16x1x256x64_0_1_0_192).toLoadRect (View.loadsAt_vmem h_S16x1x256x64)) >>= fun kk13 =>
  Prog.lift (.load vgM (Rect.unit (s := S16x2x256x256) ![0, 1, 0, 192] S16x1x256x64.size inb_S16x2x256x256_S16x1x256x64_0_1_0_192).toLoadRect (View.loadsAt_vmem h_S16x1x256x64)) >>= fun vv13 =>
  Prog.lift (.load poM (Rect.unit (s := S2x256x512) ![0, 0, 0] S2x256x512.size inb_S2x256x512_S2x256x512_0_0_0).toLoadRect (View.loadsAt_vmem h_S2x256x512)) >>= fun _ =>
  Prog.lift (.store poM (Rect.unit (s := S2x256x512) ![0, 0, 0] S2x256x512.size inb_S2x256x512_S2x256x512_0_0_0) (partialOut x wq wo ![kk00, kk01, kk02, kk03, kk10, kk11, kk12, kk13] ![vv00, vv01, vv02, vv03, vv10, vv11, vv12, vv13]) Finset.univ (View.stores_vmem_bits_univ h_S2x256x512 rfl) (.inl rfl)) >>= fun _ =>
  rest

/-- The exchange of the partial results. -/
def scatter (c : Dev nD) (rest : Vec F S16x2x16x512 .f32 → Prog (Eff F) PUnit) : Prog (Eff F) PUnit :=
  seqL (rsSend poM rsM (arr 4) (arr 5) c) rounds <|
  Prog.lift (.load poM (ownRows c).toLoadRect (View.loadsAt_vmem h_S2x16x512)) >>= fun chunk =>
  Prog.lift (.load rsM (ownChunk c).toLoadRect (View.loadsAt_vmem h_S1x2x16x512)) >>= fun _ =>
  Prog.lift (.store rsM (ownChunk c) (k0_pay28 chunk) Finset.univ (View.stores_vmem_bits_univ h_S1x2x16x512 rfl) (.inl rfl)) >>= fun _ =>
  seqL (rsRecv poM rsM (arr 5) c) rounds <|
  seqL (rsDone poM rsM (arr 4) c) rounds <|
  Prog.lift (.load rsM (Rect.unit (s := S16x2x16x512) ![0, 0, 0, 0] S16x2x16x512.size inb_S16x2x16x512_S16x2x16x512_0_0_0_0).toLoadRect (View.loadsAt_vmem h_S16x2x16x512)) >>= fun chunks =>
  rest chunks

/-- The exchange of the sums. -/
def gatherSums (c : Dev nD) (chunks : Vec F S16x2x16x512 .f32) (rest : Vec F S16x2x16x512 .f32 → Prog (Eff F) PUnit) : Prog (Eff F) PUnit :=
  Prog.lift (.load redM (Rect.unit (s := S2x16x512) ![0, 0, 0] S2x16x512.size inb_S2x16x512_S2x16x512_0_0_0).toLoadRect (View.loadsAt_vmem h_S2x16x512)) >>= fun _ =>
  Prog.lift (.store redM (Rect.unit (s := S2x16x512) ![0, 0, 0] S2x16x512.size inb_S2x16x512_S2x16x512_0_0_0) (k0_pay30 chunks) Finset.univ (View.stores_vmem_bits_univ h_S2x16x512 rfl) (.inl rfl)) >>= fun _ =>
  seqL (agSend redM (Memref.isWhole_whole _) agM (arr 6) (arr 7) c) rounds <|
  Prog.lift (.load agM (ownChunk c).toLoadRect (View.loadsAt_vmem h_S1x2x16x512)) >>= fun _ =>
  Prog.lift (.store agM (ownChunk c) (k0_pay32 (k0_pay31 (k0_pay29 chunks))) Finset.univ (View.stores_vmem_bits_univ h_S1x2x16x512 rfl) (.inl rfl)) >>= fun _ =>
  seqL (agRecv redM (Memref.isWhole_whole _) agM (arr 7) c) rounds <|
  seqL (agDone redM (Memref.isWhole_whole _) agM (arr 6) c) rounds <|
  Prog.lift (.load agM (Rect.unit (s := S16x2x16x512) ![0, 0, 0, 0] S16x2x16x512.size inb_S16x2x16x512_S16x2x16x512_0_0_0_0).toLoadRect (View.loadsAt_vmem h_S16x2x16x512)) >>= fun gathered =>
  rest gathered

/-- The store of the result. -/
def finish (gathered : Vec F S16x2x16x512 .f32) : Prog (Eff F) PUnit :=
  Prog.lift (.load outM (Rect.unit (s := S2x256x512) ![0, 0, 0] S2x256x512.size inb_S2x256x512_S2x256x512_0_0_0).toLoadRect (View.loadsAt_vmem h_S2x256x512)) >>= fun _ =>
  Prog.lift (.store outM (Rect.unit (s := S2x256x512) ![0, 0, 0] S2x256x512.size inb_S2x256x512_S2x256x512_0_0_0) (k0_pay33 gathered) Finset.univ (View.stores_vmem_bits_univ h_S2x256x512 rfl) (.inl rfl)) >>= fun _ =>
  pure ⟨⟩

/-- The loops are the phases one after the other. -/
theorem loops_eq : loopBody (F := F) xM (Memref.isWhole_whole _) wqM (Memref.isWhole_whole _) kM (Memref.isWhole_whole _) vM (Memref.isWhole_whole _) woM (Memref.isWhole_whole _) outM (Memref.isWhole_whole _) kgM (Memref.isWhole_whole _) vgM (Memref.isWhole_whole _) poM (Memref.isWhole_whole _) rsM (Memref.isWhole_whole _) redM (Memref.isWhole_whole _) agM (Memref.isWhole_whole _) (arr 0) (arr 1) (arr 2) (arr 3) (arr 4) (arr 5) (arr 6) (arr 7)
    = (Prog.lift .deviceId >>= fun c => enter c <| gatherKV c fun x wq wo => compute c x wq wo <| scatter c fun chunks => gatherSums c chunks fun gathered => finish gathered) := rfl

end Cert.KernelIdeal.Own

end
-- ==== Proof.Body.lean ====
/- The run of each phase, and of the whole body on one device. -/
module

public import proofs.«01_k».proof.Proof.Phases

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

variable (I : Inputs F) (κ : GSem nD τ sig → ℕ) (c : Dev nD)

/-- One fact for each of the other fifteen devices. -/
abbrev each (A : Fin 15 → sProp 𝕄) : sProp 𝕄 := bigSep (Finset.univ : Finset (Fin 15)) A

/-- The positions of the cells of array `a` that a device's own copies pay, at round `r`. -/
abbrev outAt (a : Fin 8) (c : Dev nD) (r : ℕ) : sProp 𝕄 := each fun k => atPos (ER (F := F)) (cell a c (peer c k)) r ∅ 0
/-- The positions of the cells of array `a` that the copies from elsewhere pay. -/
abbrev inAt (a : Fin 8) (c : Dev nD) (r : ℕ) : sProp 𝕄 := each fun k => atPos (ER (F := F)) (cell a c (prev c k)) r ∅ 0
/-- The credits for what the other devices will copy in. -/
abbrev inCred (a : Fin 8) (c : Dev nD) : sProp 𝕄 := each fun k => cred (tallyAt (cell a c (prev c k)) () (words a))
/-- The credits for a device's own copies. -/
abbrev outCred (a : Fin 8) (c : Dev nD) : sProp 𝕄 := each fun k => cred (tallyAt (cell a c (peer c k)) () (words a))
/-- What the copies of one exchange to all peers pay with. -/
abbrev outToks (a b : Fin 8) (c : Dev nD) : sProp 𝕄 := each fun k => tokens (F := F) a b c (peer c k)

theorem waits_out (a : Fin 8) : iprop(outCred (F := F) a c ∗ outAt (F := F) a c 0) ⊢ each fun k => waitPre (F := F) a c (peer c k) := pack
theorem waits_in (a : Fin 8) : iprop(inCred (F := F) a c ∗ inAt (F := F) a c 0) ⊢ each fun k => waitPre (F := F) a c (prev c k) := pack
theorem waited_out (a : Fin 8) : (each fun k => waitPost I a c (peer c k)) ⊢ iprop(outAt (F := F) a c 1 ∗ each fun k => pay I a c (peer c k)) := unpack
theorem waited_in (a : Fin 8) : (each fun k => waitPost I a c (prev c k)) ⊢ iprop(inAt (F := F) a c 1 ∗ each fun k => pay I a c (prev c k)) := unpack

/-! ## The entry -/

theorem enter_run (rest : Prog (Eff F) PUnit) (Q : PUnit → sProp 𝕄) :
    iprop(known I κ ∗ owing c (O₀ c)
        ∗ (each fun k => iprop(dutyTok (ER (F := F)) (bar (peer c k)) 0 c ∗ landing (F := F) c (peer c k) ∗ ready (F := F) c (peer c k)))
        ∗ (cred (tallyAt (bar c) () 15) ∗ atPos (ER (F := F)) (bar c) 0 ∅ 0)
        ∗ ((owing c (due1 c rounds) ∗ atPos (ER (F := F)) (bar c) 1 ∅ 0 ∗ each fun k => barPay (F := F) c (peer c k)) -∗ wpc c rest Q))
      ⊢ wpc c (enter c rest) Q := by
  unfold enter O₀
  iintro ⟨#HP, HO, HA, HB, Hk⟩
  iapply (sig_loop I κ c _ Q)
  isplitr; · iexact HP
  isplitl [HO]; · iexact HO
  isplitl [HA]; · iexact HA
  iintro HO
  simp only [semWaitWord, Prog.lift, Prog.bind_op, Prog.bind_ret]
  iapply (bar_step I κ c (due1 c rounds) (above1 c rounds) (fun _ => rest) Q)
  isplitr; · iexact HP
  isplitl [HO]; · iexact HO
  isplitl [HB]; · iexact HB
  iexact Hk

/-! ## The waits of each exchange -/

theorem credit_slot {sp : Space} (m : Memref sig .tc sp S2x256x256 .bf16) (a : Fin 8) (h : a.val < 4) : m.view.dmaCredit = words a := by
  unfold words; rw [if_pos h]

theorem credit_chunk {sp : Space} (m : Memref sig .tc sp S2x16x512 .f32) (a : Fin 8) (h : ¬ a.val < 4) : m.view.dmaCredit = words a := by
  unfold words; rw [if_neg h]

theorem k_recv (O : CellTallies nD τ sig Unit) (hO : Above 2 O) (k : Fin 15) (p : Prog (Eff F) PUnit) (Q : PUnit → sProp 𝕄) :
    iprop(known I κ ∗ owing c O ∗ waitPre (F := F) 1 c (prev c k) ∗ ((owing c O ∗ waitPost I 1 c (prev c k)) -∗ wpc c p Q))
      ⊢ wpc c (kvRecv kM (Memref.isWhole_whole _) kgM (Memref.isWhole_whole _) (arr 1) c k >>= fun _ => p) Q := by
  unfold kvRecv
  exact wait_at I κ c 1 (prev c k) (prev_ne c k) O 2 (by decide) hO _ (inSem_eq 1 c k) _ _ _ _ (by exact credit_slot _ _ (by decide)) p Q

theorem v_recv (O : CellTallies nD τ sig Unit) (hO : Above 2 O) (k : Fin 15) (p : Prog (Eff F) PUnit) (Q : PUnit → sProp 𝕄) :
    iprop(known I κ ∗ owing c O ∗ waitPre (F := F) 3 c (prev c k) ∗ ((owing c O ∗ waitPost I 3 c (prev c k)) -∗ wpc c p Q))
      ⊢ wpc c (kvRecv vM (Memref.isWhole_whole _) vgM (Memref.isWhole_whole _) (arr 3) c k >>= fun _ => p) Q := by
  unfold kvRecv
  exact wait_at I κ c 3 (prev c k) (prev_ne c k) O 2 (by decide) hO _ (inSem_eq 3 c k) _ _ _ _ (by exact credit_slot _ _ (by decide)) p Q

theorem k_done (O : CellTallies nD τ sig Unit) (hO : Above 2 O) (k : Fin 15) (p : Prog (Eff F) PUnit) (Q : PUnit → sProp 𝕄) :
    iprop(known I κ ∗ owing c O ∗ waitPre (F := F) 0 c (peer c k) ∗ ((owing c O ∗ waitPost I 0 c (peer c k)) -∗ wpc c p Q))
      ⊢ wpc c (kvDone kM (Memref.isWhole_whole _) kgM (Memref.isWhole_whole _) (arr 0) c k >>= fun _ => p) Q := by
  unfold kvDone
  exact wait_at I κ c 0 (peer c k) (peer_ne c k) O 2 (by decide) hO _ (outSem_eq 0 c k) _ _ _ _ (by exact credit_slot _ _ (by decide)) p Q

theorem v_done (O : CellTallies nD τ sig Unit) (hO : Above 2 O) (k : Fin 15) (p : Prog (Eff F) PUnit) (Q : PUnit → sProp 𝕄) :
    iprop(known I κ ∗ owing c O ∗ waitPre (F := F) 2 c (peer c k) ∗ ((owing c O ∗ waitPost I 2 c (peer c k)) -∗ wpc c p Q))
      ⊢ wpc c (kvDone vM (Memref.isWhole_whole _) vgM (Memref.isWhole_whole _) (arr 2) c k >>= fun _ => p) Q := by
  unfold kvDone
  exact wait_at I κ c 2 (peer c k) (peer_ne c k) O 2 (by decide) hO _ (outSem_eq 2 c k) _ _ _ _ (by exact credit_slot _ _ (by decide)) p Q

theorem rs_recv (O : CellTallies nD τ sig Unit) (hO : Above 3 O) (k : Fin 15) (p : Prog (Eff F) PUnit) (Q : PUnit → sProp 𝕄) :
    iprop(known I κ ∗ owing c O ∗ waitPre (F := F) 5 c (prev c k) ∗ ((owing c O ∗ waitPost I 5 c (prev c k)) -∗ wpc c p Q))
      ⊢ wpc c (rsRecv poM rsM (arr 5) c k >>= fun _ => p) Q := by
  unfold rsRecv
  exact wait_at I κ c 5 (prev c k) (prev_ne c k) O 3 (by decide) hO _ (inSem_eq 5 c k) _ _ _ _ (by exact credit_chunk _ _ (by decide)) p Q

theorem rs_done (O : CellTallies nD τ sig Unit) (hO : Above 3 O) (k : Fin 15) (p : Prog (Eff F) PUnit) (Q : PUnit → sProp 𝕄) :
    iprop(known I κ ∗ owing c O ∗ waitPre (F := F) 4 c (peer c k) ∗ ((owing c O ∗ waitPost I 4 c (peer c k)) -∗ wpc c p Q))
      ⊢ wpc c (rsDone poM rsM (arr 4) c k >>= fun _ => p) Q := by
  unfold rsDone
  exact wait_at I κ c 4 (peer c k) (peer_ne c k) O 3 (by decide) hO _ (outSem_eq 4 c k) _ _ _ _ (by exact credit_chunk _ _ (by decide)) p Q

theorem ag_recv (O : CellTallies nD τ sig Unit) (hO : Above 4 O) (k : Fin 15) (p : Prog (Eff F) PUnit) (Q : PUnit → sProp 𝕄) :
    iprop(known I κ ∗ owing c O ∗ waitPre (F := F) 7 c (prev c k) ∗ ((owing c O ∗ waitPost I 7 c (prev c k)) -∗ wpc c p Q))
      ⊢ wpc c (agRecv redM (Memref.isWhole_whole _) agM (arr 7) c k >>= fun _ => p) Q := by
  unfold agRecv
  exact wait_at I κ c 7 (prev c k) (prev_ne c k) O 4 (by decide) hO _ (inSem_eq 7 c k) _ _ _ _ (by exact credit_chunk _ _ (by decide)) p Q

theorem ag_done (O : CellTallies nD τ sig Unit) (hO : Above 4 O) (k : Fin 15) (p : Prog (Eff F) PUnit) (Q : PUnit → sProp 𝕄) :
    iprop(known I κ ∗ owing c O ∗ waitPre (F := F) 6 c (peer c k) ∗ ((owing c O ∗ waitPost I 6 c (peer c k)) -∗ wpc c p Q))
      ⊢ wpc c (agDone redM (Memref.isWhole_whole _) agM (arr 6) c k >>= fun _ => p) Q := by
  unfold agDone
  exact wait_at I κ c 6 (peer c k) (peer_ne c k) O 4 (by decide) hO _ (outSem_eq 6 c k) _ _ _ _ (by exact credit_chunk _ _ (by decide)) p Q

/-! ## Reads and writes of whole buffers -/

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

theorem x_whole (f : (cc0_stg0_0 : Ref sig .tc).ty.Contents (Elt F)) :
    xM.view.readAt (Elt F) (Rect.unit (s := S2x256x512) ![0, 0, 0] S2x256x512.size inb_S2x256x512_S2x256x512_0_0_0).toLoadRect f = f :=
  Memref.readAt_unit_zero (Elt F) cc0_stg0_0 zero3 _ f
theorem wq_whole (f : (cc0_stg1_0 : Ref sig .tc).ty.Contents (Elt F)) :
    wqM.view.readAt (Elt F) (Rect.unit (s := S512x256) ![0, 0] S512x256.size inb_S512x256_S512x256_0_0).toLoadRect f = f :=
  Memref.readAt_unit_zero (Elt F) cc0_stg1_0 zero2 _ f
theorem wo_whole (f : (cc0_stg4_0 : Ref sig .tc).ty.Contents (Elt F)) :
    woM.view.readAt (Elt F) (Rect.unit (s := S256x512) ![0, 0] S256x512.size inb_S256x512_S256x512_0_0).toLoadRect f = f :=
  Memref.readAt_unit_zero (Elt F) cc0_stg4_0 zero2 _ f
theorem po_over (w : (cc0_scratch2 : Ref sig .tc).ty.Contents (Elt F)) (f : (cc0_scratch2 : Ref sig .tc).ty.Contents (Elt F)) :
    ∀ i ∈ (Finset.univ : Finset (cc0_scratch2 : Ref sig .tc).ty.shape.Idx), (poM.access (Rect.unit (s := S2x256x512) ![0, 0, 0] S2x256x512.size inb_S2x256x512_S2x256x512_0_0_0)).write (Elt F) f w Finset.univ i = w i :=
  fun i _ => congrFun (Memref.write_access_unit_zero_univ (Elt F) cc0_scratch2 zero3 _ f w) i
theorem rs_whole (f : (cc0_scratch3 : Ref sig .tc).ty.Contents (Elt F)) :
    rsM.view.readAt (Elt F) (Rect.unit (s := S16x2x16x512) ![0, 0, 0, 0] S16x2x16x512.size inb_S16x2x16x512_S16x2x16x512_0_0_0_0).toLoadRect f = f :=
  Memref.readAt_unit_zero (Elt F) cc0_scratch3 zero4 _ f
theorem red_over (w : (cc0_scratch4 : Ref sig .tc).ty.Contents (Elt F)) (f : (cc0_scratch4 : Ref sig .tc).ty.Contents (Elt F)) :
    ∀ i ∈ (Finset.univ : Finset (cc0_scratch4 : Ref sig .tc).ty.shape.Idx), (redM.access (Rect.unit (s := S2x16x512) ![0, 0, 0] S2x16x512.size inb_S2x16x512_S2x16x512_0_0_0)).write (Elt F) f w Finset.univ i = w i :=
  fun i _ => congrFun (Memref.write_access_unit_zero_univ (Elt F) cc0_scratch4 zero3 _ f w) i
theorem ag_whole (f : (cc0_scratch5 : Ref sig .tc).ty.Contents (Elt F)) :
    agM.view.readAt (Elt F) (Rect.unit (s := S16x2x16x512) ![0, 0, 0, 0] S16x2x16x512.size inb_S16x2x16x512_S16x2x16x512_0_0_0_0).toLoadRect f = f :=
  Memref.readAt_unit_zero (Elt F) cc0_scratch5 zero4 _ f
theorem out_over (w : (cc0_stg5_0 : Ref sig .tc).ty.Contents (Elt F)) (f : (cc0_stg5_0 : Ref sig .tc).ty.Contents (Elt F)) :
    ∀ i ∈ (Finset.univ : Finset (cc0_stg5_0 : Ref sig .tc).ty.shape.Idx), (outM.access (Rect.unit (s := S2x256x512) ![0, 0, 0] S2x256x512.size inb_S2x256x512_S2x256x512_0_0_0)).write (Elt F) f w Finset.univ i = w i :=
  fun i _ => congrFun (Memref.write_access_unit_zero_univ (Elt F) cc0_stg5_0 zero3 _ f w) i

/-- A load through a memref whose whole buffer is held. -/
theorem load_all {cs : CoreSpace} {s : Shape} {e : EltTy} (m : Memref sig .tc cs s e) (r : Rect s) (hl : m.view.LoadsAt r.toLoadRect)
    (q : PosShare TreeShare) (f : Buf (Elt F) (m.view.loc (c : Thread nD τ)))
    (v : r.shape.Idx → Elt F e) (hv : m.view.readAt (Elt F) r.toLoadRect f = v) (p : (r.shape.Idx → Elt F e) → Prog (Eff F) PUnit) (Q : PUnit → sProp 𝕄) :
    iprop((m.view.loc (c : Thread nD τ) ↦{q} f) ∗ ((m.view.loc (c : Thread nD τ) ↦{q} f) -∗ wpc c (p v) Q))
      ⊢ wpc c (Prog.lift (.load m r.toLoadRect hl) >>= p) Q :=
  load_step c m r hl Finset.univ q f (fun _ _ => Finset.mem_univ _) v hv p Q

/-- A store over a whole buffer, after a load whose value is not used. -/
theorem over_all {cs : CoreSpace} {s : Shape} {e : EltTy} (m : Memref sig .tc cs s e) (r : Rect s) (hl : m.view.LoadsAt r.toLoadRect)
    (w : r.shape.Idx → Elt F e) (hx : (m.access r).Stores Finset.univ) (hm)
    (g : Buf (Elt F) (m.view.loc (c : Thread nD τ))) (hg : ∀ f, ∀ i ∈ (Finset.univ : Finset (Idx (m.view.loc (c : Thread nD τ)))), (m.access r).write (Elt F) f w Finset.univ i = g i)
    (p : Prog (Eff F) PUnit) (Q : PUnit → sProp 𝕄) :
    iprop((∃ f, m.view.loc (c : Thread nD τ) ↦{fullShare} f) ∗ ((m.view.loc (c : Thread nD τ) ↦{fullShare} g) -∗ wpc c p Q))
      ⊢ wpc c (Prog.lift (.load m r.toLoadRect hl) >>= fun _ => Prog.lift (.store m r w Finset.univ hx hm) >>= fun _ => p) Q :=
  over_step c m r hl Finset.univ (fun _ _ => Finset.mem_univ _) w hx hm g hg p Q

/-! ## The exchange of the keys and values -/

/-- The five inputs in a device's memory. -/
def inputs (c : Dev nD) : sProp 𝕄 :=
  iprop(pts c cc0_stg0_0 Finset.univ fullShare (I.x c) ∗ pts c cc0_stg1_0 Finset.univ fullShare (I.wq c) ∗ pts c cc0_stg2_0 Finset.univ fullShare (I.k c)
    ∗ pts c cc0_stg3_0 Finset.univ fullShare (I.v c) ∗ pts c cc0_stg4_0 Finset.univ fullShare (I.wo c))

theorem gatherKV_run (rest : Vec F S2x256x512 .bf16 → Vec F S512x256 .bf16 → Vec F S256x512 .bf16 → Prog (Eff F) PUnit) (Q : PUnit → sProp 𝕄) :
    iprop(known I κ ∗ owing c (due1 c rounds) ∗ inputs I c
        ∗ (kgSlot (F := F) c c ∗ vgSlot (F := F) c c) ∗ ((each fun k => kgSlot (F := F) (peer c k) c) ∗ each fun k => vgSlot (F := F) (peer c k) c)
        ∗ (outToks (F := F) 0 1 c ∗ outToks (F := F) 2 3 c)
        ∗ (outAt (F := F) 0 c 0 ∗ inAt (F := F) 1 c 0 ∗ outAt (F := F) 2 c 0 ∗ inAt (F := F) 3 c 0) ∗ (inCred (F := F) 1 c ∗ inCred (F := F) 3 c)
        ∗ ((owing c (due2 c rounds) ∗ inputs I c ∗ pts c cc0_scratch0 Finset.univ fullShare (gath I.k c) ∗ pts c cc0_scratch1 Finset.univ fullShare (gath I.v c)
            ∗ (outAt (F := F) 0 c 1 ∗ inAt (F := F) 1 c 1 ∗ outAt (F := F) 2 c 1 ∗ inAt (F := F) 3 c 1)) -∗ wpc c (rest (I.x c) (I.wq c) (I.wo c)) Q))
      ⊢ wpc c (gatherKV c rest) Q := by
  unfold gatherKV inputs
  iintro ⟨#HP, HO, ⟨Hx, Hwq, HK, HV, Hwo⟩, ⟨Hkg, Hvg⟩, ⟨Hkgs, Hvgs⟩, ⟨Ht0, Ht2⟩, ⟨Ha0, Ha1, Ha2, Ha3⟩, ⟨Hc1, Hc3⟩, Hk⟩
  ihave HK := (Entails.of_eq (k_pieces I c)) $$ HK
  icases HK with ⟨HK, HKs⟩
  ihave HV := (Entails.of_eq (v_pieces I c)) $$ HV
  icases HV with ⟨HV, HVs⟩
  iapply (kv_sends I κ c _ Q)
  isplitr; · iexact HP
  isplitl [HO]; · iexact HO
  isplitl [HKs HVs Hkgs Hvgs Ht0 Ht2]
  · iapply (pack (F := F))
    isplitl [HKs Hkgs Ht0]
    · iapply (pack3 (F := F))
      isplitl [HKs]; · iexact HKs
      isplitl [Hkgs]; · iexact Hkgs
      iexact Ht0
    · iapply (pack3 (F := F))
      isplitl [HVs]; · iexact HVs
      isplitl [Hvgs]; · iexact Hvgs
      iexact Ht2
  iintro ⟨HO, Hcs⟩
  ihave Hcs := (unpack (F := F)) $$ Hcs
  icases Hcs with ⟨Hc0, Hc2⟩
  iapply (load_step c kM (ownCols c) _ (colRect c).set fullShare (I.k c) (by rw [← ownCols_eq]; exact (View.set_slice_whole _ _).subset) _ rfl _ Q)
  isplitl [HK]; · iexact HK
  iintro HK
  iapply (over_step c kgM (ownSlot c) _ (slotRect c).set (kg_own_set c).subset _ _ _ (gath I.k c) (fun f => kg_own I.k c f _ (k_read (F := F) (I.k c) (ownCols c))) _ Q)
  isplitl [Hkg]; · iexact Hkg
  iintro Hkg
  iapply (load_step c vM (ownCols c) _ (colRect c).set fullShare (I.v c) (by rw [← ownCols_eq]; exact (View.set_slice_whole _ _).subset) _ rfl _ Q)
  isplitl [HV]; · iexact HV
  iintro HV
  iapply (over_step c vgM (ownSlot c) _ (slotRect c).set (vg_own_set c).subset _ _ _ (gath I.v c) (fun f => vg_own I.v c f _ (v_read (F := F) (I.v c) (ownCols c))) _ Q)
  isplitl [Hvg]; · iexact Hvg
  iintro Hvg
  iapply (load_all c xM _ _ fullShare (I.x c) (I.x c) (x_whole (F := F) (I.x c)) _ Q)
  isplitl [Hx]; · iexact Hx
  iintro Hx
  iapply (load_all c wqM _ _ fullShare (I.wq c) (I.wq c) (wq_whole (F := F) (I.wq c)) _ Q)
  isplitl [Hwq]; · iexact Hwq
  iintro Hwq
  iapply (load_all c woM _ _ fullShare (I.wo c) (I.wo c) (wo_whole (F := F) (I.wo c)) _ Q)
  isplitl [Hwo]; · iexact Hwo
  iintro Hwo
  iapply (pair_loop I κ c 1 3 (prev c) _ _ (due2 c rounds) (k_recv I κ c _ (above2 c rounds)) (v_recv I κ c _ (above2 c rounds)) _ Q)
  isplitr; · iexact HP
  isplitl [HO]; · iexact HO
  isplitl [Hc1 Ha1 Hc3 Ha3]
  · iapply (pack (F := F))
    isplitl [Hc1 Ha1]
    · iapply (waits_in (F := F) c 1); isplitl [Hc1]; · iexact Hc1
      iexact Ha1
    · iapply (waits_in (F := F) c 3); isplitl [Hc3]; · iexact Hc3
      iexact Ha3
  iintro ⟨HO, Hws⟩
  ihave Hws := (unpack (F := F)) $$ Hws
  icases Hws with ⟨Hw1, Hw3⟩
  ihave Hw1 := (waited_in I c 1) $$ Hw1
  ihave Hw3 := (waited_in I c 3) $$ Hw3
  icases Hw1 with ⟨Ha1, Hp1⟩
  icases Hw3 with ⟨Ha3, Hp3⟩
  iapply (pair_loop I κ c 0 2 (peer c) _ _ (due2 c rounds) (k_done I κ c _ (above2 c rounds)) (v_done I κ c _ (above2 c rounds)) _ Q)
  isplitr; · iexact HP
  isplitl [HO]; · iexact HO
  isplitl [Hc0 Ha0 Hc2 Ha2]
  · iapply (pack (F := F))
    isplitl [Hc0 Ha0]
    · iapply (waits_out (F := F) c 0); isplitl [Hc0]; · iexact Hc0
      iexact Ha0
    · iapply (waits_out (F := F) c 2); isplitl [Hc2]; · iexact Hc2
      iexact Ha2
  iintro ⟨HO, Hws⟩
  ihave Hws := (unpack (F := F)) $$ Hws
  icases Hws with ⟨Hw0, Hw2⟩
  ihave Hw0 := (waited_out I c 0) $$ Hw0
  ihave Hw2 := (waited_out I c 2) $$ Hw2
  icases Hw0 with ⟨Ha0, Hp0⟩
  icases Hw2 with ⟨Ha2, Hp2⟩
  iapply Hk
  isplitl [HO]; · iexact HO
  isplitl [Hx Hwq HK Hp0 HV Hp2 Hwo]
  · isplitl [Hx]; · iexact Hx
    isplitl [Hwq]; · iexact Hwq
    isplitl [HK Hp0]
    · iapply (Entails.of_eq (k_pieces I c).symm)
      isplitl [HK]; · iexact HK
      iexact Hp0
    isplitl [HV Hp2]
    · iapply (Entails.of_eq (v_pieces I c).symm)
      isplitl [HV]; · iexact HV
      iexact Hp2
    iexact Hwo
  isplitl [Hkg Hp1]
  · iapply (Entails.of_eq (kg_pieces I c).symm)
    isplitl [Hkg]; · iexact Hkg
    iexact Hp1
  isplitl [Hvg Hp3]
  · iapply (Entails.of_eq (vg_pieces I c).symm)
    isplitl [Hvg]; · iexact Hvg
    iexact Hp3
  isplitl [Ha0]; · iexact Ha0
  isplitl [Ha1]; · iexact Ha1
  isplitl [Ha2]; · iexact Ha2
  iexact Ha3

/-! ## The heads -/

theorem part_eq : partialOut (I.x c) (I.wq c) (I.wo c) ![head (gath I.k c) 0, head (gath I.k c) 1, head (gath I.k c) 2, head (gath I.k c) 3, head (gath I.k c) 4, head (gath I.k c) 5, head (gath I.k c) 6, head (gath I.k c) 7]
    ![head (gath I.v c) 0, head (gath I.v c) 1, head (gath I.v c) 2, head (gath I.v c) 3, head (gath I.v c) 4, head (gath I.v c) 5, head (gath I.v c) 6, head (gath I.v c) 7] = part I c := by
  unfold part
  congr 1 <;> (funext j; revert j; simp only [Fin.forall_fin_succ]; exact ⟨rfl, rfl, rfl, rfl, rfl, rfl, rfl, rfl, fun j => j.elim0⟩)

theorem compute_run (rest : Prog (Eff F) PUnit) (Q : PUnit → sProp 𝕄) :
    iprop((pts c cc0_scratch0 Finset.univ fullShare (gath I.k c) ∗ pts c cc0_scratch1 Finset.univ fullShare (gath I.v c) ∗ ∃ f, pts (F := F) c cc0_scratch2 Finset.univ fullShare f)
        ∗ ((pts c cc0_scratch0 Finset.univ fullShare (gath I.k c) ∗ pts c cc0_scratch1 Finset.univ fullShare (gath I.v c) ∗ pts c cc0_scratch2 Finset.univ fullShare (part I c)) -∗ wpc c rest Q))
      ⊢ wpc c (compute c (I.x c) (I.wq c) (I.wo c) rest) Q := by
  unfold compute
  iintro ⟨⟨Hkg, Hvg, Hpo⟩, Hk⟩
  iapply (load_all c kgM _ _ fullShare (gath I.k c) (head (gath I.k c) 0) rfl _ Q)
  isplitl [Hkg]; · iexact Hkg
  iintro Hkg
  iapply (load_all c vgM _ _ fullShare (gath I.v c) (head (gath I.v c) 0) rfl _ Q)
  isplitl [Hvg]; · iexact Hvg
  iintro Hvg
  iapply (load_all c kgM _ _ fullShare (gath I.k c) (head (gath I.k c) 1) rfl _ Q)
  isplitl [Hkg]; · iexact Hkg
  iintro Hkg
  iapply (load_all c vgM _ _ fullShare (gath I.v c) (head (gath I.v c) 1) rfl _ Q)
  isplitl [Hvg]; · iexact Hvg
  iintro Hvg
  iapply (load_all c kgM _ _ fullShare (gath I.k c) (head (gath I.k c) 2) rfl _ Q)
  isplitl [Hkg]; · iexact Hkg
  iintro Hkg
  iapply (load_all c vgM _ _ fullShare (gath I.v c) (head (gath I.v c) 2) rfl _ Q)
  isplitl [Hvg]; · iexact Hvg
  iintro Hvg
  iapply (load_all c kgM _ _ fullShare (gath I.k c) (head (gath I.k c) 3) rfl _ Q)
  isplitl [Hkg]; · iexact Hkg
  iintro Hkg
  iapply (load_all c vgM _ _ fullShare (gath I.v c) (head (gath I.v c) 3) rfl _ Q)
  isplitl [Hvg]; · iexact Hvg
  iintro Hvg
  iapply (load_all c kgM _ _ fullShare (gath I.k c) (head (gath I.k c) 4) rfl _ Q)
  isplitl [Hkg]; · iexact Hkg
  iintro Hkg
  iapply (load_all c vgM _ _ fullShare (gath I.v c) (head (gath I.v c) 4) rfl _ Q)
  isplitl [Hvg]; · iexact Hvg
  iintro Hvg
  iapply (load_all c kgM _ _ fullShare (gath I.k c) (head (gath I.k c) 5) rfl _ Q)
  isplitl [Hkg]; · iexact Hkg
  iintro Hkg
  iapply (load_all c vgM _ _ fullShare (gath I.v c) (head (gath I.v c) 5) rfl _ Q)
  isplitl [Hvg]; · iexact Hvg
  iintro Hvg
  iapply (load_all c kgM _ _ fullShare (gath I.k c) (head (gath I.k c) 6) rfl _ Q)
  isplitl [Hkg]; · iexact Hkg
  iintro Hkg
  iapply (load_all c vgM _ _ fullShare (gath I.v c) (head (gath I.v c) 6) rfl _ Q)
  isplitl [Hvg]; · iexact Hvg
  iintro Hvg
  iapply (load_all c kgM _ _ fullShare (gath I.k c) (head (gath I.k c) 7) rfl _ Q)
  isplitl [Hkg]; · iexact Hkg
  iintro Hkg
  iapply (load_all c vgM _ _ fullShare (gath I.v c) (head (gath I.v c) 7) rfl _ Q)
  isplitl [Hvg]; · iexact Hvg
  iintro Hvg
  rw [part_eq I c]
  iapply (over_all c poM (Rect.unit (s := S2x256x512) ![0, 0, 0] S2x256x512.size inb_S2x256x512_S2x256x512_0_0_0) _ (part I c) _ _ (part I c) (po_over (part I c)) _ Q)
  isplitl [Hpo]; · iexact Hpo
  iintro Hpo
  iapply Hk
  isplitl [Hkg]; · iexact Hkg
  isplitl [Hvg]; · iexact Hvg
  iexact Hpo

/-! ## The exchange of the partial results -/

theorem scatter_run (rest : Vec F S16x2x16x512 .f32 → Prog (Eff F) PUnit) (Q : PUnit → sProp 𝕄) :
    iprop(known I κ ∗ owing c (due2 c rounds) ∗ pts c cc0_scratch2 Finset.univ fullShare (part I c)
        ∗ rsSlot (F := F) c c ∗ (each fun k => rsSlot (F := F) (peer c k) c)
        ∗ outToks (F := F) 4 5 c ∗ (outAt (F := F) 4 c 0 ∗ inAt (F := F) 5 c 0) ∗ inCred (F := F) 5 c
        ∗ ((owing c (due3 c rounds) ∗ pts c cc0_scratch2 Finset.univ fullShare (part I c) ∗ pts c cc0_scratch3 Finset.univ fullShare (chunks I c)
            ∗ (outAt (F := F) 4 c 1 ∗ inAt (F := F) 5 c 1)) -∗ wpc c (rest (chunks I c)) Q))
      ⊢ wpc c (scatter c rest) Q := by
  unfold scatter
  iintro ⟨#HP, HO, HA, HB, HBs, Ht, ⟨Ha4, Ha5⟩, Hc5, Hk⟩
  ihave HA := (Entails.of_eq (po_pieces I c)) $$ HA
  icases HA with ⟨HA, HAs⟩
  iapply (send_loop I κ c 4 5 _ (fun p => rsSlot (F := F) p c) (due3 c rounds) (fun k O p Q => rs_send I κ c k O p Q) _ Q)
  isplitr; · iexact HP
  isplitl [HO]; · iexact HO
  isplitl [HAs HBs Ht]
  · iapply (pack3 (F := F))
    isplitl [HAs]; · iexact HAs
    isplitl [HBs]; · iexact HBs
    iexact Ht
  iintro ⟨HO, Hc4⟩
  iapply (load_step c poM (ownRows c) _ (rowRect c).set fullShare (part I c) (by rw [← ownRows_eq]; exact (View.set_slice_whole _ _).subset) _ rfl _ Q)
  isplitl [HA]; · iexact HA
  iintro HA
  iapply (over_step c rsM (ownChunk c) _ (chunkRect c).set (rs_own_set c).subset _ _ _ (spread (part I) c) (fun f => rs_own (part I) c f _ (po_read (F := F) (part I c) (ownRows c))) _ Q)
  isplitl [HB]; · iexact HB
  iintro HB
  iapply (wait_loop I κ c 5 (prev c) _ (due3 c rounds) (rs_recv I κ c _ (above3 c rounds)) _ Q)
  isplitr; · iexact HP
  isplitl [HO]; · iexact HO
  isplitl [Hc5 Ha5]
  · iapply (waits_in (F := F) c 5); isplitl [Hc5]; · iexact Hc5
    iexact Ha5
  iintro ⟨HO, Hw5⟩
  ihave Hw5 := (waited_in I c 5) $$ Hw5
  icases Hw5 with ⟨Ha5, Hp5⟩
  iapply (wait_loop I κ c 4 (peer c) _ (due3 c rounds) (rs_done I κ c _ (above3 c rounds)) _ Q)
  isplitr; · iexact HP
  isplitl [HO]; · iexact HO
  isplitl [Hc4 Ha4]
  · iapply (waits_out (F := F) c 4); isplitl [Hc4]; · iexact Hc4
    iexact Ha4
  iintro ⟨HO, Hw4⟩
  ihave Hw4 := (waited_out I c 4) $$ Hw4
  icases Hw4 with ⟨Ha4, Hp4⟩
  ihave HB := (Entails.of_eq (rs_pieces I c).symm) $$ [HB Hp5]
  · isplitl [HB]; · iexact HB
    iexact Hp5
  iapply (load_all c rsM _ _ fullShare (chunks I c) (chunks I c) (rs_whole (F := F) (chunks I c)) _ Q)
  isplitl [HB]; · iexact HB
  iintro HB
  iapply Hk
  isplitl [HO]; · iexact HO
  isplitl [HA Hp4]
  · iapply (Entails.of_eq (po_pieces I c).symm)
    isplitl [HA]; · iexact HA
    iexact Hp4
  isplitl [HB]; · iexact HB
  isplitl [Ha4]; · iexact Ha4
  iexact Ha5

/-! ## The exchange of the sums -/

theorem gatherSums_run (rest : Vec F S16x2x16x512 .f32 → Prog (Eff F) PUnit) (Q : PUnit → sProp 𝕄) :
    iprop(known I κ ∗ owing c (due3 c rounds) ∗ (∃ f, pts (F := F) c cc0_scratch4 Finset.univ fullShare f)
        ∗ agSlot (F := F) c c ∗ (each fun k => agSlot (F := F) (peer c k) c)
        ∗ outToks (F := F) 6 7 c ∗ (outAt (F := F) 6 c 0 ∗ inAt (F := F) 7 c 0) ∗ inCred (F := F) 7 c
        ∗ ((owing c 0 ∗ pts c cc0_scratch4 Finset.univ fullShare (reduced I c) ∗ pts c cc0_scratch5 Finset.univ fullShare (gathered I)
            ∗ (outAt (F := F) 6 c 1 ∗ inAt (F := F) 7 c 1)) -∗ wpc c (rest (gathered I)) Q))
      ⊢ wpc c (gatherSums c (chunks I c) rest) Q := by
  unfold gatherSums
  iintro ⟨#HP, HO, HA, HB, HBs, Ht, ⟨Ha6, Ha7⟩, Hc7, Hk⟩
  iapply (over_all c redM (Rect.unit (s := S2x16x512) ![0, 0, 0] S2x16x512.size inb_S2x16x512_S2x16x512_0_0_0) _ (reduced I c) _ _ (reduced I c) (red_over (reduced I c)) _ Q)
  isplitl [HA]; · iexact HA
  iintro HA
  ihave HA := (Entails.of_eq (red_pieces I c)) $$ HA
  icases HA with ⟨HA, HAs⟩
  iapply (send_loop I κ c 6 7 _ (fun p => agSlot (F := F) p c) 0 (fun k O p Q => ag_send I κ c k O p Q) _ Q)
  isplitr; · iexact HP
  isplitl [HO]; · iexact HO
  isplitl [HAs HBs Ht]
  · iapply (pack3 (F := F))
    isplitl [HAs]; · iexact HAs
    isplitl [HBs]; · iexact HBs
    iexact Ht
  iintro ⟨HO, Hc6⟩
  iapply (over_step c agM (ownChunk c) _ (chunkRect c).set (ag_own_set c).subset _ _ _ (gathered I) (ag_own (chunks I) c) _ Q)
  isplitl [HB]; · iexact HB
  iintro HB
  iapply (wait_loop I κ c 7 (prev c) _ 0 (ag_recv I κ c _ (above_zero 4)) _ Q)
  isplitr; · iexact HP
  isplitl [HO]; · iexact HO
  isplitl [Hc7 Ha7]
  · iapply (waits_in (F := F) c 7); isplitl [Hc7]; · iexact Hc7
    iexact Ha7
  iintro ⟨HO, Hw7⟩
  ihave Hw7 := (waited_in I c 7) $$ Hw7
  icases Hw7 with ⟨Ha7, Hp7⟩
  iapply (wait_loop I κ c 6 (peer c) _ 0 (ag_done I κ c _ (above_zero 4)) _ Q)
  isplitr; · iexact HP
  isplitl [HO]; · iexact HO
  isplitl [Hc6 Ha6]
  · iapply (waits_out (F := F) c 6); isplitl [Hc6]; · iexact Hc6
    iexact Ha6
  iintro ⟨HO, Hw6⟩
  ihave Hw6 := (waited_out I c 6) $$ Hw6
  icases Hw6 with ⟨Ha6, Hp6⟩
  ihave HB := (Entails.of_eq (ag_pieces I c).symm) $$ [HB Hp7]
  · isplitl [HB]; · iexact HB
    iexact Hp7
  iapply (load_all c agM _ _ fullShare (gathered I) (gathered I) (ag_whole (F := F) (gathered I)) _ Q)
  isplitl [HB]; · iexact HB
  iintro HB
  iapply Hk
  isplitl [HO]; · iexact HO
  isplitl [HA Hp6]
  · iapply (Entails.of_eq (red_pieces I c).symm)
    isplitl [HA]; · iexact HA
    iexact Hp6
  isplitl [HB]; · iexact HB
  isplitl [Ha6]; · iexact Ha6
  iexact Ha7

/-- The store of the result. -/
theorem finish_run (Q : PUnit → sProp 𝕄) :
    iprop((∃ f, pts (F := F) c cc0_stg5_0 Finset.univ fullShare f) ∗ (pts c cc0_stg5_0 Finset.univ fullShare (result I) -∗ Q ⟨⟩))
      ⊢ wpc c (finish (gathered I)) Q := by
  unfold finish
  iintro ⟨HA, Hk⟩
  iapply (over_all c outM (Rect.unit (s := S2x256x512) ![0, 0, 0] S2x256x512.size inb_S2x256x512_S2x256x512_0_0_0) _ (result I) _ _ (result I) (out_over (result I)) _ Q)
  isplitl [HA]; · iexact HA
  iintro HA
  rw [Prog.pure_eq_ret]
  unfold wpc
  rw [wp_ret]
  imodintro
  iapply Hk
  iexact HA

end Cert.KernelIdeal.Own

end
-- ==== Proof.Run.lean ====
/- The run of the whole body on one device, with what the device holds of the protocol. -/
module

public import proofs.«01_k».proof.Proof.Body

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

variable (I : Inputs F) (κ : GSem nD τ sig → ℕ) (c : Dev nD)

/-! ## What a device holds of the protocol -/

/-- The duties of a device's own copies at its completion cells, and at the arrival cells of its peers. -/
abbrev outTok (a : Fin 8) (c : Dev nD) : sProp 𝕄 := each fun k => dutyTok (ER (F := F)) (cell a c (peer c k)) 0 0
abbrev inTok (b : Fin 8) (c : Dev nD) : sProp 𝕄 := each fun k => dutyTok (ER (F := F)) (cell b (peer c k) c) 0 0
/-- That the arrival cells of the peers are open. -/
abbrev inOpen (b : Fin 8) (c : Dev nD) : sProp 𝕄 := each fun k => reached (ER (F := F)) (cell b (peer c k) c) 0

/-- A device's positions in the cells of array `a`; nothing is ever paid into the cell of the device itself. -/
def atAll (a : Fin 8) (c : Dev nD) (r : ℕ) : sProp 𝕄 := bigSep Finset.univ fun i : Dev nD => atPos (ER (F := F)) (cell a c i) (if i = c then 0 else r) ∅ 0
/-- That a device's own cells of array `a` are open. -/
def opened (a : Fin 8) (c : Dev nD) : sProp 𝕄 := bigSep Finset.univ fun i : Dev nD => reached (ER (F := F)) (cell a c i) 0

instance opened_persistent (a : Fin 8) (c : Dev nD) : BI.Persistent (opened (F := F) a c) := by unfold opened; infer_instance

theorem atAll_out (a : Fin 8) (r : ℕ) : atAll (F := F) a c r = iprop(atPos (ER (F := F)) (cell a c c) 0 ∅ 0 ∗ outAt (F := F) a c r) := by
  unfold atAll
  rw [bigSep_peer c, if_pos rfl]
  exact congrArg (fun X => iprop(_ ∗ X)) (bigSep_congr fun k _ => by rw [if_neg (peer_ne c k)])
theorem atAll_in (a : Fin 8) (r : ℕ) : atAll (F := F) a c r = iprop(atPos (ER (F := F)) (cell a c c) 0 ∅ 0 ∗ inAt (F := F) a c r) := by
  unfold atAll
  rw [bigSep_prev c, if_pos rfl]
  exact congrArg (fun X => iprop(_ ∗ X)) (bigSep_congr fun k _ => by rw [if_neg (prev_ne c k)])

/-- What a device is given at launch: its duties, its credits, its position at its barrier cell. -/
def ghost (c : Dev nD) : sProp 𝕄 :=
  iprop((each fun k => dutyTok (ER (F := F)) (bar (peer c k)) 0 c)
    ∗ ((outTok (F := F) 0 c ∗ inTok (F := F) 1 c) ∗ (outTok (F := F) 2 c ∗ inTok (F := F) 3 c) ∗ (outTok (F := F) 4 c ∗ inTok (F := F) 5 c) ∗ (outTok (F := F) 6 c ∗ inTok (F := F) 7 c))
    ∗ (inCred (F := F) 1 c ∗ inCred (F := F) 3 c ∗ inCred (F := F) 5 c ∗ inCred (F := F) 7 c)
    ∗ (cred (tallyAt (bar c) () 15) ∗ atPos (ER (F := F)) (bar c) 0 ∅ 0))

/-- A device's positions in all cells of its eight arrays. -/
def positions (c : Dev nD) (r : ℕ) : sProp 𝕄 :=
  iprop(atAll (F := F) 0 c r ∗ atAll (F := F) 1 c r ∗ atAll (F := F) 2 c r ∗ atAll (F := F) 3 c r ∗ atAll (F := F) 4 c r ∗ atAll (F := F) 5 c r ∗ atAll (F := F) 6 c r ∗ atAll (F := F) 7 c r)
/-- That all of them are open. -/
def openAll (c : Dev nD) : sProp 𝕄 :=
  iprop(opened (F := F) 0 c ∗ opened (F := F) 1 c ∗ opened (F := F) 2 c ∗ opened (F := F) 3 c ∗ opened (F := F) 4 c ∗ opened (F := F) 5 c ∗ opened (F := F) 6 c ∗ opened (F := F) 7 c)

instance openAll_persistent (c : Dev nD) : BI.Persistent (openAll (F := F) c) := by unfold openAll; infer_instance

/-- A buffer with some contents. -/
abbrev any (c : Dev nD) (b : Ref sig .tc) : sProp 𝕄 := iprop(∃ f, pts (F := F) c b Finset.univ fullShare f)

/-- The six buffers that the body uses between its phases. -/
def spare (c : Dev nD) : sProp 𝕄 :=
  iprop(any (F := F) c cc0_scratch0 ∗ any (F := F) c cc0_scratch1 ∗ any (F := F) c cc0_scratch2 ∗ any (F := F) c cc0_scratch3 ∗ any (F := F) c cc0_scratch4 ∗ any (F := F) c cc0_scratch5)

/-! ## Splitting and joining families -/

theorem opened_peer (a : Fin 8) : opened (F := F) a c ⊢ each fun k => reached (ER (F := F)) (cell a c (peer c k)) 0 := by
  unfold opened
  rw [bigSep_peer c]
  iintro ⟨-, H⟩
  iexact H

theorem tokens_intro (a b : Fin 8) : iprop(opened (F := F) a c ∗ (outTok (F := F) a c ∗ inTok (F := F) b c) ∗ inOpen (F := F) b c) ⊢ outToks (F := F) a b c := by
  unfold outToks
  rw [show (each fun k => tokens (F := F) a b c (peer c k)) = each fun k => iprop(dutyTok (ER (F := F)) (cell a c (peer c k)) 0 0 ∗ reached (ER (F := F)) (cell a c (peer c k)) 0
    ∗ dutyTok (ER (F := F)) (cell b (peer c k) c) 0 0 ∗ reached (ER (F := F)) (cell b (peer c k) c) 0) from rfl]
  iintro ⟨H, ⟨Ho, Hi⟩, HI⟩
  ihave H := (opened_peer (F := F) c a) $$ H
  iapply (pack3 (F := F))
  isplitl [Ho]; · iexact Ho
  isplitl [H]; · iexact H
  iapply (pack (F := F))
  isplitl [Hi]; · iexact Hi
  iexact HI

theorem landing_intro : iprop((each fun k => kgSlot (F := F) c (peer c k)) ∗ (each fun k => vgSlot (F := F) c (peer c k)) ∗ (each fun k => rsSlot (F := F) c (peer c k)) ∗ each fun k => agSlot (F := F) c (peer c k))
    ⊢ each fun k => landing (F := F) c (peer c k) := by
  rw [show (each fun k => landing (F := F) c (peer c k)) = each fun k => iprop(kgSlot (F := F) c (peer c k) ∗ vgSlot (F := F) c (peer c k) ∗ rsSlot (F := F) c (peer c k) ∗ agSlot (F := F) c (peer c k)) from rfl]
  iintro ⟨H0, H1, H2, H3⟩
  iapply (pack3 (F := F))
  isplitl [H0]; · iexact H0
  isplitl [H1]; · iexact H1
  iapply (pack (F := F))
  isplitl [H2]; · iexact H2
  iexact H3

theorem ready_intro : openAll (F := F) c ⊢ each fun k => ready (F := F) c (peer c k) := by
  rw [show (each fun k => ready (F := F) c (peer c k)) = each fun k => iprop(reached (ER (F := F)) (cell 1 c (peer c k)) 0 ∗ reached (ER (F := F)) (cell 3 c (peer c k)) 0
    ∗ reached (ER (F := F)) (cell 5 c (peer c k)) 0 ∗ reached (ER (F := F)) (cell 7 c (peer c k)) 0) from rfl]
  unfold openAll
  iintro ⟨-, H1, -, H3, -, H5, -, H7⟩
  iapply (pack3 (F := F))
  isplitl [H1]; · iapply (opened_peer (F := F) c 1); iexact H1
  isplitl [H3]; · iapply (opened_peer (F := F) c 3); iexact H3
  iapply (pack (F := F))
  isplitl [H5]; · iapply (opened_peer (F := F) c 5); iexact H5
  iapply (opened_peer (F := F) c 7); iexact H7

theorem barPay_elim : (each fun k => barPay (F := F) c (peer c k))
    ⊢ iprop(((each fun k => kgSlot (F := F) (peer c k) c) ∗ (each fun k => vgSlot (F := F) (peer c k) c) ∗ (each fun k => rsSlot (F := F) (peer c k) c) ∗ each fun k => agSlot (F := F) (peer c k) c)
      ∗ inOpen (F := F) 1 c ∗ inOpen (F := F) 3 c ∗ inOpen (F := F) 5 c ∗ inOpen (F := F) 7 c) := by
  rw [show (each fun k => barPay (F := F) c (peer c k)) = each fun k => iprop((kgSlot (F := F) (peer c k) c ∗ vgSlot (F := F) (peer c k) c ∗ rsSlot (F := F) (peer c k) c ∗ agSlot (F := F) (peer c k) c)
    ∗ (reached (ER (F := F)) (cell 1 (peer c k) c) 0 ∗ reached (ER (F := F)) (cell 3 (peer c k) c) 0 ∗ reached (ER (F := F)) (cell 5 (peer c k) c) 0 ∗ reached (ER (F := F)) (cell 7 (peer c k) c) 0)) from rfl]
  simp only [bigSep_sep']
  exact .rfl

/-! ## The body -/

theorem body_run (Q : PUnit → sProp 𝕄) :
    iprop(known I κ ∗ openAll (F := F) c ∗ owing c (O₀ c) ∗ inputs I c ∗ any (F := F) c cc0_stg5_0 ∗ spare (F := F) c ∗ ghost (F := F) c ∗ positions (F := F) c 0
        ∗ ((owing c 0 ∗ inputs I c ∗ pts c cc0_stg5_0 Finset.univ fullShare (result I) ∗ spare (F := F) c ∗ atPos (ER (F := F)) (bar c) 1 ∅ 0 ∗ positions (F := F) c 1) -∗ Q ⟨⟩))
      ⊢ wpc c (Prog.lift .deviceId >>= fun d => enter d <| gatherKV d fun x wq wo => compute d x wq wo <| scatter d fun chunks => gatherSums d chunks fun gathered => finish gathered) Q := by
  unfold spare ghost positions
  simp only [Prog.lift, Prog.bind_op, Prog.bind_ret]
  rw [show ∀ p : Dev nD → Prog (Eff F) PUnit, wpc c (.op .deviceId p) Q = wpc c (p c) Q from fun p => by unfold wpc; simp only [wp_deviceId]]
  iintro ⟨#HP, #Hop, HO, Hin, Hout, ⟨H0, H1, H2, H3, H4, H5⟩, ⟨Hbt, ⟨Ht0, Ht2, Ht4, Ht6⟩, ⟨Hc1, Hc3, Hc5, Hc7⟩, Hbar⟩, ⟨Ha0, Ha1, Ha2, Ha3, Ha4, Ha5, Ha6, Ha7⟩, Hk⟩
  ihave Hkg := (pieces_any (F := F) (ℓ := (c : Thread nD τ).loc cc0_scratch0) (fun i => (slotRect i).set) slot_disjoint slot_univ c) $$ H0
  icases Hkg with ⟨Hkg, Hkgs⟩
  ihave Hvg := (pieces_any (F := F) (ℓ := (c : Thread nD τ).loc cc0_scratch1) (fun i => (slotRect i).set) slot_disjoint slot_univ c) $$ H1
  icases Hvg with ⟨Hvg, Hvgs⟩
  ihave Hrs := (pieces_any (F := F) (ℓ := (c : Thread nD τ).loc cc0_scratch3) (fun i => (chunkRect i).set) chunk_disjoint chunk_univ c) $$ H3
  icases Hrs with ⟨Hrs, Hrss⟩
  ihave Hag := (pieces_any (F := F) (ℓ := (c : Thread nD τ).loc cc0_scratch5) (fun i => (chunkRect i).set) chunk_disjoint chunk_univ c) $$ H5
  icases Hag with ⟨Hag, Hags⟩
  ihave Ha0 := (Entails.of_eq (atAll_out (F := F) c 0 0)) $$ Ha0
  ihave Ha1 := (Entails.of_eq (atAll_in (F := F) c 1 0)) $$ Ha1
  ihave Ha2 := (Entails.of_eq (atAll_out (F := F) c 2 0)) $$ Ha2
  ihave Ha3 := (Entails.of_eq (atAll_in (F := F) c 3 0)) $$ Ha3
  ihave Ha4 := (Entails.of_eq (atAll_out (F := F) c 4 0)) $$ Ha4
  ihave Ha5 := (Entails.of_eq (atAll_in (F := F) c 5 0)) $$ Ha5
  ihave Ha6 := (Entails.of_eq (atAll_out (F := F) c 6 0)) $$ Ha6
  ihave Ha7 := (Entails.of_eq (atAll_in (F := F) c 7 0)) $$ Ha7
  icases Ha0 with ⟨Hd0, Ha0⟩
  icases Ha1 with ⟨Hd1, Ha1⟩
  icases Ha2 with ⟨Hd2, Ha2⟩
  icases Ha3 with ⟨Hd3, Ha3⟩
  icases Ha4 with ⟨Hd4, Ha4⟩
  icases Ha5 with ⟨Hd5, Ha5⟩
  icases Ha6 with ⟨Hd6, Ha6⟩
  icases Ha7 with ⟨Hd7, Ha7⟩
  iapply (enter_run I κ c _ Q)
  isplitr; · iexact HP
  isplitl [HO]; · iexact HO
  isplitl [Hbt Hkgs Hvgs Hrss Hags]
  · iapply (pack3 (F := F))
    isplitl [Hbt]; · iexact Hbt
    isplitl [Hkgs Hvgs Hrss Hags]
    · iapply (landing_intro (F := F) c)
      isplitl [Hkgs]; · iexact Hkgs
      isplitl [Hvgs]; · iexact Hvgs
      isplitl [Hrss]; · iexact Hrss
      iexact Hags
    iapply (ready_intro (F := F) c); iexact Hop
  isplitl [Hbar]; · iexact Hbar
  iintro ⟨HO, Hbar, Hpay⟩
  ihave Hpay := (barPay_elim (F := F) c) $$ Hpay
  icases Hpay with ⟨⟨Hkgs, Hvgs, Hrss, Hags⟩, Hi1, Hi3, Hi5, Hi7⟩
  ihave Hop2 := (show openAll (F := F) c ⊢ iprop(opened (F := F) 0 c ∗ opened (F := F) 2 c ∗ opened (F := F) 4 c ∗ opened (F := F) 6 c) from by
    unfold openAll
    iintro ⟨G0, -, G2, -, G4, -, G6, -⟩
    isplitl [G0]; · iexact G0
    isplitl [G2]; · iexact G2
    isplitl [G4]; · iexact G4
    iexact G6) $$ Hop
  icases Hop2 with ⟨Hp0, Hp2, Hp4, Hp6⟩
  ihave Ht0 := (tokens_intro (F := F) c 0 1) $$ [Hp0 Ht0 Hi1]
  · isplitl [Hp0]; · iexact Hp0
    isplitl [Ht0]; · iexact Ht0
    iexact Hi1
  ihave Ht2 := (tokens_intro (F := F) c 2 3) $$ [Hp2 Ht2 Hi3]
  · isplitl [Hp2]; · iexact Hp2
    isplitl [Ht2]; · iexact Ht2
    iexact Hi3
  ihave Ht4 := (tokens_intro (F := F) c 4 5) $$ [Hp4 Ht4 Hi5]
  · isplitl [Hp4]; · iexact Hp4
    isplitl [Ht4]; · iexact Ht4
    iexact Hi5
  ihave Ht6 := (tokens_intro (F := F) c 6 7) $$ [Hp6 Ht6 Hi7]
  · isplitl [Hp6]; · iexact Hp6
    isplitl [Ht6]; · iexact Ht6
    iexact Hi7
  iapply (gatherKV_run I κ c _ Q)
  isplitr; · iexact HP
  isplitl [HO]; · iexact HO
  isplitl [Hin]; · iexact Hin
  isplitl [Hkg Hvg]
  · isplitl [Hkg]; · iexact Hkg
    iexact Hvg
  isplitl [Hkgs Hvgs]
  · isplitl [Hkgs]; · iexact Hkgs
    iexact Hvgs
  isplitl [Ht0 Ht2]
  · isplitl [Ht0]; · iexact Ht0
    iexact Ht2
  isplitl [Ha0 Ha1 Ha2 Ha3]
  · isplitl [Ha0]; · iexact Ha0
    isplitl [Ha1]; · iexact Ha1
    isplitl [Ha2]; · iexact Ha2
    iexact Ha3
  isplitl [Hc1 Hc3]
  · isplitl [Hc1]; · iexact Hc1
    iexact Hc3
  iintro ⟨HO, Hin, Hkg, Hvg, ⟨Ha0, Ha1, Ha2, Ha3⟩⟩
  iapply (compute_run I c _ Q)
  isplitl [Hkg Hvg H2]
  · isplitl [Hkg]; · iexact Hkg
    isplitl [Hvg]; · iexact Hvg
    iexact H2
  iintro ⟨Hkg, Hvg, H2⟩
  iapply (scatter_run I κ c _ Q)
  isplitr; · iexact HP
  isplitl [HO]; · iexact HO
  isplitl [H2]; · iexact H2
  isplitl [Hrs]; · iexact Hrs
  isplitl [Hrss]; · iexact Hrss
  isplitl [Ht4]; · iexact Ht4
  isplitl [Ha4 Ha5]
  · isplitl [Ha4]; · iexact Ha4
    iexact Ha5
  isplitl [Hc5]; · iexact Hc5
  iintro ⟨HO, H2, Hrs, ⟨Ha4, Ha5⟩⟩
  iapply (gatherSums_run I κ c _ Q)
  isplitr; · iexact HP
  isplitl [HO]; · iexact HO
  isplitl [H4]; · iexact H4
  isplitl [Hag]; · iexact Hag
  isplitl [Hags]; · iexact Hags
  isplitl [Ht6]; · iexact Ht6
  isplitl [Ha6 Ha7]
  · isplitl [Ha6]; · iexact Ha6
    iexact Ha7
  isplitl [Hc7]; · iexact Hc7
  iintro ⟨HO, H4, Hag, ⟨Ha6, Ha7⟩⟩
  iapply (finish_run I c Q)
  isplitl [Hout]; · iexact Hout
  iintro Hout
  iapply Hk
  isplitl [HO]; · iexact HO
  isplitl [Hin]; · iexact Hin
  isplitl [Hout]; · iexact Hout
  isplitl [Hkg Hvg H2 Hrs H4 Hag]
  · isplitl [Hkg]; · iexists _; iexact Hkg
    isplitl [Hvg]; · iexists _; iexact Hvg
    isplitl [H2]; · iexists _; iexact H2
    isplitl [Hrs]; · iexists _; iexact Hrs
    isplitl [H4]; · iexists _; iexact H4
    iexists _; iexact Hag
  isplitl [Hbar]; · iexact Hbar
  isplitl [Hd0 Ha0]
  · iapply (Entails.of_eq (atAll_out (F := F) c 0 1).symm)
    isplitl [Hd0]; · iexact Hd0
    iexact Ha0
  isplitl [Hd1 Ha1]
  · iapply (Entails.of_eq (atAll_in (F := F) c 1 1).symm)
    isplitl [Hd1]; · iexact Hd1
    iexact Ha1
  isplitl [Hd2 Ha2]
  · iapply (Entails.of_eq (atAll_out (F := F) c 2 1).symm)
    isplitl [Hd2]; · iexact Hd2
    iexact Ha2
  isplitl [Hd3 Ha3]
  · iapply (Entails.of_eq (atAll_in (F := F) c 3 1).symm)
    isplitl [Hd3]; · iexact Hd3
    iexact Ha3
  isplitl [Hd4 Ha4]
  · iapply (Entails.of_eq (atAll_out (F := F) c 4 1).symm)
    isplitl [Hd4]; · iexact Hd4
    iexact Ha4
  isplitl [Hd5 Ha5]
  · iapply (Entails.of_eq (atAll_in (F := F) c 5 1).symm)
    isplitl [Hd5]; · iexact Hd5
    iexact Ha5
  isplitl [Hd6 Ha6]
  · iapply (Entails.of_eq (atAll_out (F := F) c 6 1).symm)
    isplitl [Hd6]; · iexact Hd6
    iexact Ha6
  iapply (Entails.of_eq (atAll_in (F := F) c 7 1).symm)
  isplitl [Hd7]; · iexact Hd7
  iexact Ha7

end Cert.KernelIdeal.Own

end
-- ==== Proof.Region.lean ====
/- The region of the kernel: what its staging buffers hold before and after, and the body's obligation. -/
module

public import proofs.«01_k».proof.Proof.Run
public import proofs.«01_k».proof.Proof.Gen.KernelIdeal.Frame

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the region reads -/

/-- What the kernel is given: the arrays as the region finds them. -/
def given : Inputs F where
  x c := V m c main_arg0
  wq c := V m c main_arg1
  k c := V m c main_v1
  v c := V m c main_v2
  wo c := V m c main_arg4

theorem read0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide) (fun a => by fin_cases a <;> decide) f
theorem read1 (c : Dev nD) (f : Buf (Elt F) ((c : Thread nD τ).loc main_arg1)) : (win0_1.blk t0_0).view.read (Elt F) f = f :=
  Memref.read_access_unit_zero (Elt F) main_arg1
    (show (fun a => (win0_1.index t0_0) a * main_arg1.ty.shape.size a) = fun _ => 0 from funext fun a => by fin_cases a <;> decide) (fun a => by fin_cases a <;> decide) f
theorem read2 (c : Dev nD) (f : Buf (Elt F) ((c : Thread nD τ).loc main_v1)) : (win0_2.blk t0_0).view.read (Elt F) f = f :=
  Memref.read_access_unit_zero (Elt F) main_v1
    (show (fun a => (win0_2.index t0_0) a * main_v1.ty.shape.size a) = fun _ => 0 from funext fun a => by fin_cases a <;> decide) (fun a => by fin_cases a <;> decide) f
theorem read3 (c : Dev nD) (f : Buf (Elt F) ((c : Thread nD τ).loc main_v2)) : (win0_3.blk t0_0).view.read (Elt F) f = f :=
  Memref.read_access_unit_zero (Elt F) main_v2
    (show (fun a => (win0_3.index t0_0) a * main_v2.ty.shape.size a) = fun _ => 0 from funext fun a => by fin_cases a <;> decide) (fun a => by fin_cases a <;> decide) f
theorem read4 (c : Dev nD) (f : Buf (Elt F) ((c : Thread nD τ).loc main_arg4)) : (win0_4.blk t0_0).view.read (Elt F) f = f :=
  Memref.read_access_unit_zero (Elt F) main_arg4
    (show (fun a => (win0_4.index t0_0) a * main_arg4.ty.shape.size a) = fun _ => 0 from funext fun a => by fin_cases a <;> decide) (fun a => by fin_cases a <;> decide) f
theorem read5 (c : Dev nD) (f : Buf (Elt F) ((c : Thread nD τ).loc main_v3)) : (win0_5.blk t0_0).view.read (Elt F) f = f :=
  Memref.read_access_unit_zero (Elt F) main_v3
    (show (fun a => (win0_5.index t0_0) a * main_v3.ty.shape.size a) = fun _ => 0 from funext fun a => by fin_cases a <;> decide) (fun a => by fin_cases a <;> decide) f

/-! ## The protocol's cells through the region -/

/-- The kernel's own semaphores: the eight arrays of sixteen. -/
def osem (p : Fin 8 × Dev nD) : SemLoc sig := .dma (dsem p.1 p.2)

theorem dsem_inj : Function.Injective fun p : Fin 8 × Dev nD => dsem p.1 p.2 := fun p q h => by
  have h2 := congrArg decode h
  rw [decode_dsem, decode_dsem] at h2
  exact Option.some.inj h2

theorem osem_inj : Function.Injective osem := fun p q h => dsem_inj (SemLoc.dma.inj h)

theorem own_sems : Pipeline.OwnSemFacts spec0 osem where
  isScoped := by decide +kernel
  inj := osem_inj
  disj := by decide +kernel

/-- The pairs, array by array. -/
theorem by_array (Φ : Fin 8 × Dev nD → sProp 𝕄) : bigSep Finset.univ Φ
    = iprop((bigSep Finset.univ fun i => Φ (0, i)) ∗ (bigSep Finset.univ fun i => Φ (1, i)) ∗ (bigSep Finset.univ fun i => Φ (2, i)) ∗ (bigSep Finset.univ fun i => Φ (3, i))
      ∗ (bigSep Finset.univ fun i => Φ (4, i)) ∗ (bigSep Finset.univ fun i => Φ (5, i)) ∗ (bigSep Finset.univ fun i => Φ (6, i)) ∗ (bigSep Finset.univ fun i => Φ (7, i))) := by
  rw [bigSep_univ_prod]
  exact bigSep_univ_eq_bigSepL [(0 : Fin 8), 1, 2, 3, 4, 5, 6, 7] (by decide) (by decide) _

theorem positions_eq (c : Dev nD) (r : ℕ) : positions (F := F) c r
    = bigSep (Finset.univ : Finset (Fin 8 × Dev nD)) fun p => atPos (ER (F := F)) (cell p.1 c p.2) (if p.2 = c then 0 else r) ∅ 0 := by
  rw [by_array]; rfl
theorem openAll_eq (c : Dev nD) : openAll (F := F) c
    = bigSep (Finset.univ : Finset (Fin 8 × Dev nD)) fun p => reached (ER (F := F)) (cell p.1 c p.2) 0 := by
  rw [by_array]; rfl

variable (I : Inputs F) (κ : GSem nD τ sig → ℕ)

theorem known_cells (c : Dev nD) : known I κ ⊢ bigSep (Finset.univ : Finset (Fin 8 × Dev nD)) fun p => cellInv ER (sched I) (κ (cell p.1 c p.2)) (cell p.1 c p.2) := by
  have h : (bigSep (Finset.univ : Finset (Fin 8 × Dev nD)) fun _ => known I κ) ⊢ bigSep (Finset.univ : Finset (Fin 8 × Dev nD)) fun p => cellInv ER (sched I) (κ (cell p.1 c p.2)) (cell p.1 c p.2) :=
    bigSep_mono fun p _ => known_cell I κ p.1 c p.2
  exact (BI.bigSep_of_persistent (R := known I κ) Finset.univ).trans h

/-- Before the body every cell of a device is opened with its counter. -/
theorem open_cells (c : Dev nD) :
    iprop(known I κ ∗ (bigSep (Finset.univ : Finset (Fin 8 × Dev nD)) fun p => openTok (ER (F := F)) (cell p.1 c p.2)) ∗ Pipeline.ownSems0 osem c)
      ⊢ (|={Set.univ}=> iprop(positions (F := F) c 0 ∗ openAll (F := F) c) : sProp 𝕄) := by
  iintro ⟨#HP, Ho, Hs⟩
  ihave HI := (known_cells I κ c) $$ HP
  imod (cells_open ER (sched I) (Finset.univ : Finset (Fin 8 × Dev nD)) (fun p => cell p.1 c p.2) (fun p => κ (cell p.1 c p.2)) (Es := Set.univ)
    (fun p _ => Set.mem_univ _)) $$ [HI Ho Hs] with Ha
  · isplitl [HI Ho]
    · rw [bigSep_sep']
      isplitl [HI]; · iexact HI
      iexact Ho
    iapply (show (Pipeline.ownSems0 osem c : sProp 𝕄) ⊢ bigSep (Finset.univ : Finset (Fin 8 × Dev nD)) fun p => semVal (cell p.1 c p.2) 0 from .rfl); iexact Hs
  imodintro
  rw [positions_eq, openAll_eq]
  ihave Ha := (Entails.of_eq (bigSep_sep' _ _ _)) $$ Ha
  icases Ha with ⟨Ha, Hr⟩
  isplitl [Ha]
  · simp only [ite_self]
    iexact Ha
  iexact Hr

/-- After the body every cell of a device gives its counter back at zero. -/
theorem close_cells (c : Dev nD) :
    iprop(known I κ ∗ positions (F := F) c 1 ∗ atPos (ER (F := F)) (bar c) 1 ∅ 0)
      ⊢ (|={Set.univ}=> iprop(Pipeline.ownSems0 osem c ∗ semVal (bar c) 0) : sProp 𝕄) := by
  rw [positions_eq]
  iintro ⟨#HP, Ha, Hb⟩
  ihave HI := (known_cells I κ c) $$ HP
  ihave HB := (known_bar I κ c) $$ HP
  imod (cells_close ER (sched I) (Finset.univ : Finset (Fin 8 × Dev nD)) (fun p => cell p.1 c p.2) (fun p => κ (cell p.1 c p.2)) (Es := Set.univ)
    (fun p _ => Set.mem_univ _) (fun p _ h => h) (fun p => if p.2 = c then 0 else 1)
    (fun p _ r hr => by
      by_cases h : p.2 = c
      · rw [h]; exact duties_own I p.1 c r
      · rw [if_neg h] at hr; exact duties_later I _ r hr)) $$ [HI Ha] with Hs
  · rw [bigSep_sep']
    isplitl [HI]; · iexact HI
    iexact Ha
  imod (cell_close ER (sched I) (g := bar c) (R := 1) (Set.mem_univ (κ (bar c))) (fun h => h) (duties_later I (bar c))) $$ [HB Hb] with Hv
  · isplitl [HB]; · iexact HB
    iexact Hb
  imodintro
  isplitl [Hs]
  · iapply (show (bigSep (Finset.univ : Finset (Fin 8 × Dev nD)) fun p => semVal (cell p.1 c p.2) 0) ⊢ (Pipeline.ownSems0 osem c : sProp 𝕄) from .rfl); iexact Hs
  iexact Hv

/-! ## The region's data -/

/-- What a device brings into the body. -/
def entry (c : Dev nD) : sProp 𝕄 :=
  iprop((∃ κ, known I κ ∗ ghost (F := F) c ∗ positions (F := F) c 0 ∗ openAll (F := F) c) ∗ spare (F := F) c ∗ ∃ r, prngReg c r)
/-- What it takes out of it. -/
def exit (c : Dev nD) : sProp 𝕄 :=
  iprop((Pipeline.ownSems0 osem c ∗ semVal (bar c) 0) ∗ spare (F := F) c ∗ ∃ r, prngReg c r)

def dat (c : Dev nD) : Pipeline.Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => result (given m)
    | ⟨_ + 6, h⟩ => absurd h (Nat.not_lt.2 (Nat.le_add_left _ _))
  Φ t := if t.val = 0 then entry (given m) c else exit c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m
  | ⟨_ + 1, h⟩ => absurd h (Nat.not_lt.2 (Nat.le_add_left _ _))

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_intro {c : Dev nD} (dt : Pipeline.Dat τ (Elt F) Unit ℕ UU ℕ cfg0 c) (t : Fin (cfg0.N + 1)) (O : CellTallies nD τ sig Unit)
    (h0 : dt.owed t = O) (hr : dt.recorded t = Set.univ) : owing c O ⊢ (dt.owesAt () t : sProp 𝕄) := by
  unfold owing Dat.owesAt Pipeline.owesWithin Dat.bound
  rw [h0, hr]
  iintro ⟨%W, HO⟩; iexists W
  isplitr; · ipureintro; exact fun _ _ => Or.inl trivial
  iexact HO
theorem owesAt_elim {c : Dev nD} (dt : Pipeline.Dat τ (Elt F) Unit ℕ UU ℕ cfg0 c) (t : Fin (cfg0.N + 1)) (O : CellTallies nD τ sig Unit)
    (h0 : dt.owed t = O) : (dt.owesAt () t : sProp 𝕄) ⊢ owing c O := by
  unfold owing Dat.owesAt Pipeline.owesWithin
  rw [h0]
  iintro ⟨%W, -, HO⟩; iexists W; iexact HO

/-! An input is in its staging buffer, whatever the buffer held. -/

theorem before0 (c : Dev nD) (d) : (dat m c).before (0 : Fin 6) t0_0 d = V m c main_arg0 := by
  unfold Dat.before; rw [if_pos (fetch0_0 t0_0)]; exact read0 (F := F) c (V m c main_arg0)
theorem before1 (c : Dev nD) (d) : (dat m c).before (1 : Fin 6) t0_0 d = V m c main_arg1 := by
  unfold Dat.before; rw [if_pos (fetch0_1 t0_0)]; exact read1 (F := F) c (V m c main_arg1)
theorem before2 (c : Dev nD) (d) : (dat m c).before (2 : Fin 6) t0_0 d = V m c main_v1 := by
  unfold Dat.before; rw [if_pos (fetch0_2 t0_0)]; exact read2 (F := F) c (V m c main_v1)
theorem before3 (c : Dev nD) (d) : (dat m c).before (3 : Fin 6) t0_0 d = V m c main_v2 := by
  unfold Dat.before; rw [if_pos (fetch0_3 t0_0)]; exact read3 (F := F) c (V m c main_v2)
theorem before4 (c : Dev nD) (d) : (dat m c).before (4 : Fin 6) t0_0 d = V m c main_arg4 := by
  unfold Dat.before; rw [if_pos (fetch0_4 t0_0)]; exact read4 (F := F) c (V m c main_arg4)

end Cert.KernelIdeal.Own

end
-- ==== Proof.Segment.lean ====
/- The body's obligation, and the region as a segment of the program. -/
module

public import proofs.«01_k».proof.Proof.Region

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The body -/

theorem body_loops : bodyAt0 (F := F) t0_0
    = (Prog.lift .deviceId >>= fun d => enter d <| gatherKV d fun x wq wo => compute d x wq wo <| scatter d fun chunks => gatherSums d chunks fun gathered => finish gathered) :=
  (body_eq_loops _ _ _ _ _ _ _ _ _ _ _ _ _ _ _ _ _ _ _ _ _ _ _ _ _ _ _ _ _ _ _ _).trans loops_eq

/-- From what enters the region to what leaves it. -/
theorem body_all (c : Dev nD) (Q : PUnit → sProp 𝕄) :
    iprop(entry (given m) c ∗ owing c (O₀ c) ∗ inputs (given m) c ∗ any (F := F) c cc0_stg5_0
        ∗ ((exit (F := F) c ∗ owing c 0 ∗ inputs (given m) c ∗ pts c cc0_stg5_0 Finset.univ fullShare (result (given m))) -∗ Q ⟨⟩))
      ⊢ wpc c (bodyAt0 (F := F) t0_0) Q := by
  rw [body_loops]
  unfold entry exit
  iintro ⟨⟨⟨%κ, #HP, Hg, Hpos, #Hop⟩, Hsp, Hr⟩, HO, Hin, Hout, Hk⟩
  unfold wpc
  iapply (wp_fupd (Fr := frame) (wpE := wpE (defs₀ (F := F)) 𝒱₀ (c : Thread nD τ) none) (E := Set.univ))
  iapply (body_run (given m) κ c _)
  isplitr; · iexact HP
  isplitr; · iexact Hop
  isplitl [HO]; · iexact HO
  isplitl [Hin]; · iexact Hin
  isplitl [Hout]; · iexact Hout
  isplitl [Hsp]; · iexact Hsp
  isplitl [Hg]; · iexact Hg
  isplitl [Hpos]; · iexact Hpos
  iintro ⟨HO, Hin, Hout, Hsp, Hbar, Hpos⟩
  imod (close_cells (given m) κ c) $$ [Hpos Hbar] with Hs
  · isplitr; · iexact HP
    isplitl [Hpos]; · iexact Hpos
    iexact Hbar
  imodintro
  iapply Hk
  isplitl [Hs Hsp Hr]
  · isplitl [Hs]; · iexact Hs
    isplitl [Hsp]; · iexact Hsp
    iexact Hr
  isplitl [HO]; · iexact HO
  isplitl [Hin]; · iexact Hin
  iexact Hout

set_option maxRecDepth 20000 in
theorem body (c : Dev nD) : BodyObligation (dat (F := F) m c) defs₀ 𝒱₀ () Set.univ := fun t => by
  obtain rfl := fin_N0 t
  rw [bigSep_W0, bigSep_W0]
  simp only [owns_whole_eq]
  rw [show (dat m c).Φ t0_0.castSucc = entry (given m) c from rfl, show (dat m c).Φ t0_0.succ = exit c from rfl]
  show (BIBase.Entails (_ : sProp 𝕄) (wp frame (wpE (defs₀ (F := F)) 𝒱₀ c none) Set.univ (bodyAt0 (F := F) t0_0) _))
  iintro ⟨HΦ, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before0 m c d0] at h0
  rw [before1 m c d1] at h1
  rw [before2 m c d2] at h2
  rw [before3 m c d3] at h3
  rw [before4 m c d4] at h4
  subst h0 h1 h2 h3 h4
  ihave HO := (owesAt_elim (dat m c) _ (O₀ c) (owed_first m c)) $$ HO
  iapply (body_all m c _)
  isplitl [HΦ]; · iexact HΦ
  isplitl [HO]; · iexact HO
  isplitl [H0 H1 H2 H3 H4]
  · unfold inputs
    isplitl [H0]; · iexact H0
    isplitl [H1]; · iexact H1
    isplitl [H2]; · iexact H2
    isplitl [H3]; · iexact H3
    iexact H4
  isplitl [H5]; · iexists f5; iexact H5
  unfold inputs
  iintro ⟨HΦ, HO, ⟨H0, H1, H2, H3, H4⟩, H5⟩
  isplitl [HΦ]; · iexact HΦ
  isplitl [HO]; · iapply (owesAt_intro (dat m c) t0_0.succ 0 (owed_last m c) rfl); iexact HO
  isplitl [H0]; · iexists _; isplitr; · ipureintro; exact (read0 (F := F) c (V m c main_arg0)).symm
                  iexact H0
  isplitl [H1]; · iexists _; isplitr; · ipureintro; exact (read1 (F := F) c (V m c main_arg1)).symm
                  iexact H1
  isplitl [H2]; · iexists _; isplitr; · ipureintro; exact (read2 (F := F) c (V m c main_v1)).symm
                  iexact H2
  isplitl [H3]; · iexists _; isplitr; · ipureintro; exact (read3 (F := F) c (V m c main_v2)).symm
                  iexact H3
  isplitl [H4]; · iexists _; isplitr; · ipureintro; exact (read4 (F := F) c (V m c main_arg4)).symm
                  iexact H4
  iexists _; isplitr; · ipureintro; rfl
  iexact H5

end Cert.KernelIdeal.Own

end
-- ==== Proof.Pass.lean ====
/- The region of the kernel as a segment of the program, from launch to the end. -/
module

public import proofs.«01_k».proof.Proof.Segment

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The body -/

/-! ## The arrays -/

/-- A device's arrays outside the kernel's own memory. -/
def bufs : Finset (DevRef τ sig) := (StableHlo.tcRefs τ sig).filter fun b => ¬ b.isScoped
/-- Those of them that the region's windows read and write. -/
abbrev arrs : Finset (DevRef τ sig) := Pipeline.arrRefs (τ := τ) (pcfgs (F := F) 0).spec

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sem : ∀ sm : SemLoc sig, sm.isScoped .tc = false → sm = .reg barrierSem := by decide +kernel

theorem unscoped_counters (c : Dev nD) : (unscopedSems0 c : sProp 𝕄) = semVal (bar c) 0 := by
  unfold unscopedSems0
  rw [show (Finset.univ.filter fun sm : SemLoc sig => ¬ sm.isScoped .tc) = {SemLoc.reg barrierSem} from by
    ext sm
    rw [Finset.mem_filter, Finset.mem_singleton]
    exact ⟨fun h => unscoped_sem sm (by simpa using h.2), fun h => by subst h; exact ⟨Finset.mem_univ _, by decide⟩⟩, BI.bigSep_singleton]

theorem arrs_sub : arrs (F := F) ⊆ bufs := by
  rw [show arrs (F := F) = Pipeline.arrRefs (τ := τ) spec0 from rfl]
  decide +kernel

/-- The arrays at launch, after the two reshapes, and after the region. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v3) (result (given m))

theorem V₂_same (c : Dev nD) (b : DevRef τ sig) (h : b ≠ Proc.devRef .tc main_v3) : V₂ m c b = V₁ m c b := Function.update_of_ne h ..
theorem V₂_result (c : Dev nD) : V₂ m c (Proc.devRef .tc main_v3) = result (given m) := Function.update_self ..

theorem in_arr (c : Dev nD) : ∀ w : Fin 6, (dat m c).arrAt w 0 = V₁ m c (Proc.devRef .tc (Pipeline.arrRef spec0 w)) := fun _ => rfl

theorem out_arr (c : Dev nD) : (dat m c).arrAt (5 : Fin 6) cfg0.N = result (given m) := by
  have hw : ((cfg0.win 5).blk t0_0).view.read (Elt F) ((dat m c).arrAt (5 : Fin 6) cfg0.N) = (dat m c).flushed (5 : Fin 6) t0_0 := by
    rw [show cfg0.N = t0_0.val + 1 from rfl, (dat m c).arrAt_succ (5 : Fin 6) t0_0, flush0_5, if_pos rfl]
    exact View.read_write_univ _ _
  exact (read5 (F := F) c _).symm.trans (hw.trans (show (cfg0.win 5).cut _ ((dat m c).after (5 : Fin 6) t0_0) = _ from funext fun _ => rfl))

theorem end_arr (c : Dev nD) (w : Fin 6) : (dat m c).arrAt w cfg0.N = V₂ m c (Proc.devRef .tc (Pipeline.arrRef spec0 w)) := by
  by_cases h : w = 5
  · subst h
    exact (out_arr m c).trans (V₂_result m c).symm
  · rw [V₂_same m c _ (by revert w; decide +kernel), (dat m c).arrAt_in w (by revert w; decide +kernel)]
    rfl

/-! ## The segments -/

abbrev rest : Finset (DevRef τ sig) := bufs \ arrs (F := F)

/-- What a device keeps for the region from launch on, what enters the body, and what leaves it. -/
def Tk (c : Dev nD) : sProp 𝕄 :=
  iprop(∃ κ, known (given m) κ ∗ ghost (F := F) c ∗ bigSep (Finset.univ : Finset (Fin 8 × Dev nD)) fun p => openTok (ER (F := F)) (cell p.1 c p.2))
def Xk (c : Dev nD) : sProp 𝕄 := iprop(∃ κ, known (given m) κ ∗ ghost (F := F) c ∗ positions (F := F) c 0 ∗ openAll (F := F) c)
def Yk (c : Dev nD) : sProp 𝕄 := semVal (bar c) 0

theorem held_none (c : Dev nD) (W : Valuation τ sig (Elt F)) : (StableHlo.held (c.tc : Thread nD τ) ∅ W : sProp 𝕄) = BI.emp := by
  unfold StableHlo.held
  exact BI.bigSep_empty

theorem region_open (c : Dev nD) : iprop(Tk m c ∗ Pipeline.ownSems0 osem c ∗ levAts L lv) ⊢ (|={Set.univ}=> Xk m c : sProp 𝕄) := by
  unfold Tk Xk
  iintro ⟨⟨%κ, #HP, Hg, Ho⟩, Hs, -⟩
  imod (open_cells (given m) κ c) $$ [Ho Hs] with ⟨Ha, Hr⟩
  · isplitr; · iexact HP
    isplitl [Ho]; · iexact Ho
    iexact Hs
  imodintro
  iexists κ
  isplitr; · iexact HP
  isplitl [Hg]; · iexact Hg
  isplitl [Ha]; · iexact Ha
  iexact Hr

theorem region_in (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = entry (given m) c from rfl, show (Pipeline.scopedRest (Pipeline.pin (pcfgs (F := F)) adm 0).spec c : sProp 𝕄) = spare (F := F) c from scopedRest0_eq c]
  unfold entry Xk
  iintro ⟨Hs, Hp, -, HX⟩
  isplitl [HX]; · iexact HX
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = exit (F := F) c from rfl, show (Pipeline.scopedRest (Pipeline.pin (pcfgs (F := F)) adm 0).spec c : sProp 𝕄) = spare (F := F) c from scopedRest0_eq c, held_none]
  unfold exit Yk
  iintro ⟨⟨Ho, Hb⟩, Hs, Hp⟩
  isplitl [Hs]; · iexact Hs
  isplitl [Hp]; · iexact Hp
  isplitr; · iempintro
  isplitl [Ho]; · iexact Ho
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage : ∀ w : Fin 6, ∀ s : Fin (cfg0.win w).nbuf, decode ((cfg0.win w).sem s) = none := by
  intro w s
  fin_cases w <;> fin_cases s <;> rfl

theorem owed_cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then O₀ c else 0 from rfl] at h
  split at h
  · exact above0 c rounds g i h
  · exact absurd h (Nat.lt_irrefl 0)

theorem level_cut : Pipeline.LevelCutOwed (pcfgs (F := F)) adm (pdats m) () L lv 0 (fun _ => 0) where
  hι c w s := by rw [L_tc]; exact Finset.mem_singleton_self _
  hιb c w s := by
    show (match decode ((cfg0.win w).sem s) with | some (a, _) => _ | none => _) ≤ _
    rw [lv_stage w s]
  hD c t g i h := owed_cut m c t g i h

abbrev ℝ𝕊 : Type _ := Pipeline.RegionSeg (pcfgs (F := F)) adm (pdats m) () defs₀ 𝒱₀ L lv 0

set_option backward.isDefEq.respectTransparency.types false in
def region : ℝ𝕊 m :=
  Pipeline.RegionSeg.ofTalk (pcfgs (F := F)) adm (pdats m) () defs₀ 𝒱₀ L lv 0 osem own_sems
    ∅ (rest (F := F)) (Finset.empty_subset _) kit rfl (fun c => (body m c).loose)
    (fun _ => 0) O₀ (fun c => (owed_zero m c).trans (zero_add _).symm) (owed_last m) (fun _ => rfl) (fun _ w => by fin_cases w <;> rfl)
    (V₁ m) (V₂ m) (fun c b hb => V₂_same m c b fun h => by
      rw [Finset.sdiff_empty, Finset.mem_sdiff] at hb
      exact hb.2 (by rw [h, show arrs (F := F) = Pipeline.arrRefs (τ := τ) spec0 from rfl]; decide +kernel))
    (Tk m) Yk (Xk m) Yk (region_open m) (region_in m) (region_out m)
    (fun c => by iintro H; imodintro; iexact H)
    (fun _ => 0) (level_cut m) (fun _ => iprop(emp)) (in_arr m) (end_arr m)

/-- What rides beside the arrays up to the region. -/
def R (c : Dev nD) : sProp 𝕄 := iprop((Tk m c ∗ ∃ r, prngReg c r) ∗ ∃ W, owes (c : Thread nD τ) (O₀ c) W)

theorem region_pre (c : Dev nD) : iprop(StableHlo.held (c : Thread nD τ) bufs (V₁ m c) ∗ R m c) ⊢ (region m).pre c := by
  show _ ⊢ iprop(StableHlo.held (c.tc : Thread nD τ) (arrs (F := F)) (V₁ m c) ∗ (∃ r, prngReg c r)
    ∗ (StableHlo.held (c.tc : Thread nD τ) (rest (F := F)) (V₁ m c) ∗ emp) ∗ Tk m c ∗ ∃ Wd, owes (c : Thread nD τ) (0 + O₀ c) Wd)
  rw [StableHlo.held_sub_split (c.tc : Thread nD τ) (arrs_sub (F := F)) (V₁ m c), zero_add]
  unfold R
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c
    ⊢ iprop(StableHlo.held (c : Thread nD τ) bufs (V₂ m c) ∗ (semVal (bar c) 0 ∗ ∃ W, owes (c : Thread nD τ) (0 : CellTallies nD τ sig Unit) W)) := by
  show iprop(StableHlo.held (c.tc : Thread nD τ) (arrs (F := F)) (V₂ m c) ∗ (∃ r, prngReg c r)
    ∗ (StableHlo.held (c.tc : Thread nD τ) (rest (F := F)) (V₂ m c) ∗ emp) ∗ Yk c ∗ ∃ Wd, owes (c : Thread nD τ) (0 : CellTallies nD τ sig Unit) Wd) ⊢ _
  rw [StableHlo.held_sub_split (c.tc : Thread nD τ) (arrs_sub (F := F)) (V₂ m c)]
  unfold Yk
  iintro ⟨Ha, -, ⟨Hr, -⟩, Hb, HO⟩
  isplitl [Ha Hr]
  · isplitl [Ha]; · iexact Ha
    iexact Hr
  isplitl [Hb]; · iexact Hb
  iexact HO

theorem ops_bufs : ∀ op ∈ (hostOps0 : List (HloOp τ sig (Elt F))), op.bufs ⊆ bufs := by
  intro op h
  rcases List.mem_cons.mp h with rfl | h
  · show ({Proc.devRef .tc main_arg2, Proc.devRef .tc main_v1} : Finset (DevRef τ sig)) ⊆ bufs; decide +kernel
  · obtain rfl := List.mem_singleton.mp h
    show ({Proc.devRef .tc main_arg3, Proc.devRef .tc main_v2} : Finset (DevRef τ sig)) ⊆ bufs; decide +kernel
theorem ops_fresh : ∀ op ∈ (hostOps0 : List (HloOp τ sig (Elt F))), op.fresh = ∅ :=
  List.forall_iff_forall_mem.mp hostOps0_fresh

def host : Pipeline.HostSeg (Name := ℕ) (U := UU) (pcfgs (F := F)) defs₀ 𝒱₀ L lv :=
  Pipeline.HostSeg.ofOps _ _ _ _ _ bufs hostOps0 ops_bufs ops_fresh (V₀ m) (R m)

/-- The program is the reshapes and then the region. -/
def segs : List (Pipeline.Seg (pcfgs (F := F)) adm (pdats m) () defs₀ 𝒱₀ L lv) := [.host (host m), .region (region m)]

theorem main_eq (c : Dev nD) : main (F := F) c = Pipeline.Seg.run (segs m) :=
  main_segs adm (pdats m) () 𝒱₀ L lv (host m) (region m) rfl c

end Cert.KernelIdeal.Own

end
-- ==== Proof.Credit.lean ====
/- The credits that a device holds at launch against what the others owe it. -/
module

public import proofs.«01_k».proof.Proof.Region

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem sepL_mono {A B : Fin 15 → sProp 𝕄} (h : ∀ k, A k ⊢ B k) : ∀ l : List (Fin 15), sepL A l ⊢ sepL B l
  | [] => .rfl
  | k :: l => by
    unfold sepL
    iintro ⟨Ha, Hl⟩
    isplitl [Ha]; · iapply (h k); iexact Ha
    iapply (sepL_mono h l); iexact Hl

/-- The credit against dues over rounds, round by round. -/
theorem credit_due (f : Dev nD → Fin 15 → CellTallies nD τ sig Unit) (O : Dev nD → CellTallies nD τ sig Unit) (c : Dev nD) :
    ∀ l : List (Fin 15), (Pipeline.launchCred (fun d => due (f d) (O d) l) c : sProp 𝕄)
      ⊢ iprop(Pipeline.launchCred O c ∗ sepL (fun k => Pipeline.launchCred (fun d => f d k) c) l)
  | [] => by
    unfold sepL
    show (BIBase.Entails (Pipeline.launchCred O c : sProp 𝕄) _)
    iintro H
    isplitl [H]; · iexact H
    iempintro
  | k :: l => by
    unfold sepL
    rw [show (Pipeline.launchCred (fun d => due (f d) (O d) (k :: l)) c : sProp 𝕄)
      = iprop(Pipeline.launchCred (fun d => due (f d) (O d) l) c ∗ Pipeline.launchCred (fun d => f d k) c) from Pipeline.launchCred_add _ _ c]
    iintro ⟨Hl, Hk⟩
    ihave H := (credit_due f O c l) $$ Hl
    icases H with ⟨HO, Hl⟩
    isplitl [HO]; · iexact HO
    isplitl [Hk]; · iexact Hk
    iexact Hl

theorem owe_at (b : Fin 8) (d c : Dev nD) (k : Fin 15) :
    owe b d k (cell b c (prev c k)) () = if d = prev c k then words b else 0 := by
  unfold owe
  rw [tallyAt_apply]
  by_cases h : d = prev c k
  · subst h; rw [peer_prev, if_pos ⟨rfl, rfl⟩, if_pos rfl]
  · rw [if_neg h, if_neg]
    rintro ⟨e, -⟩
    have e2 : dsem b (prev c k) = dsem b d := SemLoc.dma.inj (congrArg Prod.snd e)
    exact h (congrArg Prod.snd (dsem_inj (a₁ := (b, prev c k)) (a₂ := (b, d)) e2)).symm

/-- Against the copies of one round, the credit of the one copy that arrives here. -/
theorem credit_owe (b : Fin 8) (c : Dev nD) (k : Fin 15) :
    (Pipeline.launchCred (fun d => owe b d k) c : sProp 𝕄) ⊢ cred (tallyAt (cell b c (prev c k)) () (words b)) := by
  have h : tallyOn (cell b c (prev c k)) (launchCredit (Pipeline.owing fun d => owe b d k) 0 (cell b c (prev c k)))
      = (tallyAt (cell b c (prev c k)) () (words b) : CellTallies nD τ sig Unit) := by
    unfold tallyAt; refine congrArg _ (Finsupp.ext fun u => ?_); cases u
    rw [Pipeline.launchCredit_owing, Finsupp.single_eq_same, Finset.sum_congr rfl fun d _ => owe_at b d c k,
      Finset.sum_ite_eq' Finset.univ (prev c k) fun _ => words b, if_pos (Finset.mem_univ _)]
  rw [← h]
  exact Pipeline.launchCred_elim _ c _

theorem credit_units (g : GSem nD τ sig) : ∀ l : List (Fin 15), sepL (fun _ => (cred (tallyAt g () 1) : sProp 𝕄)) l ⊢ cred (tallyAt g () l.length)
  | [] => by
    unfold sepL
    rw [List.length_nil, tallyAt_zero, cred_zero]
  | k :: l => by
    unfold sepL
    rw [List.length_cons, ← tallyAt_add]
    iintro ⟨H1, Hl⟩
    iapply (cred_add _ _).2
    isplitl [Hl]
    · iapply (credit_units g l); iexact Hl
    iexact H1

theorem credit_bar (c : Dev nD) (k : Fin 15) :
    (Pipeline.launchCred (fun d => tallyAt (bar (peer d k)) () 1) c : sProp 𝕄) ⊢ cred (tallyAt (bar c) () 1) :=
  Pipeline.launchCred_tallyAt (.reg barrierSem) (fun d => peer d k) (fun d => prev d k) (fun d => peer_prev d k) (fun d => prev_peer d k) () 1 c

theorem credit_array (b : Fin 8) (c : Dev nD) : sepL (fun k => (Pipeline.launchCred (fun d => owe b d k) c : sProp 𝕄)) rounds ⊢ inCred (F := F) b c := by
  refine (sepL_mono (fun k => credit_owe b c k) rounds).trans ?_
  rw [sepL_rounds]

theorem sepL_pair (A B : Fin 15 → sProp 𝕄) : sepL (fun k => iprop(A k ∗ B k)) rounds ⊢ iprop(sepL A rounds ∗ sepL B rounds) := by
  rw [sepL_rounds, sepL_rounds, sepL_rounds]
  exact Entails.of_eq (bigSep_sep' _ _ _)

/-- All that a device is owed. -/
theorem credits (c : Dev nD) : (Pipeline.launchCred O₀ c : sProp 𝕄)
    ⊢ iprop((inCred (F := F) 1 c ∗ inCred (F := F) 3 c ∗ inCred (F := F) 5 c ∗ inCred (F := F) 7 c) ∗ cred (tallyAt (bar c) () 15)) := by
  iintro H
  ihave H := (show (Pipeline.launchCred O₀ c : sProp 𝕄) ⊢ _ from credit_due (fun d k => tallyAt (bar (peer d k)) () 1) (fun d => due1 d rounds) c rounds) $$ H
  icases H with ⟨H, Hb⟩
  ihave H := (show (Pipeline.launchCred (fun d => due1 d rounds) c : sProp 𝕄) ⊢ _ from credit_due (fun d k => owe 3 d k + owe 1 d k) (fun d => due2 d rounds) c rounds) $$ H
  icases H with ⟨H, H31⟩
  ihave H := (show (Pipeline.launchCred (fun d => due2 d rounds) c : sProp 𝕄) ⊢ _ from credit_due (fun d k => owe 5 d k) (fun d => due3 d rounds) c rounds) $$ H
  icases H with ⟨H, H5⟩
  ihave H := (show (Pipeline.launchCred (fun d => due3 d rounds) c : sProp 𝕄) ⊢ _ from credit_due (fun d k => owe 7 d k) (fun _ => 0) c rounds) $$ H
  icases H with ⟨-, H7⟩
  ihave H31 := (sepL_mono (B := fun k => iprop(Pipeline.launchCred (fun d => owe 3 d k) c ∗ Pipeline.launchCred (fun d => owe 1 d k) c))
    (fun k => Entails.of_eq (Pipeline.launchCred_add _ _ c)) rounds) $$ H31
  ihave H31 := (sepL_pair _ _) $$ H31
  icases H31 with ⟨H3, H1⟩
  isplitr [Hb]
  · isplitl [H1]; · iapply (credit_array (F := F) 1 c); iexact H1
    isplitl [H3]; · iapply (credit_array (F := F) 3 c); iexact H3
    isplitl [H5]; · iapply (credit_array (F := F) 5 c); iexact H5
    iapply (credit_array (F := F) 7 c); iexact H7
  ihave Hb := (sepL_mono (fun k => credit_bar (F := F) c k) rounds) $$ Hb
  iapply (credit_units (F := F) (bar c) rounds); iexact Hb

end Cert.KernelIdeal.Own

end
-- ==== Proof.Launch.lean ====
/- The launch: the credits, the tokens and the run of the program. -/
module

public import proofs.«01_k».proof.Proof.Pass
public import proofs.«01_k».proof.Proof.Credit

@[expose] public section

set_option synthInstance.maxSize 4096

noncomputable section

namespace Cert.KernelIdeal.Own

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)
variable (ρ : Dev nD → PrngReg)

/-! ## The cells -/

def barEmb : Dev nD ↪ GSem nD τ sig := ⟨fun c => bar c, fun _ _ h => congrArg (fun g : GSem nD τ sig => g.1.1) h⟩

theorem cell_inj {a a' : Fin 8} {c c' i i' : Dev nD} (h : cell a c i = cell a' c' i') : a = a' ∧ c = c' ∧ i = i' := by
  have h2 := dsem_inj (a₁ := (a, i)) (a₂ := (a', i')) (SemLoc.dma.inj (congrArg Prod.snd h))
  exact ⟨congrArg Prod.fst h2, congrArg (fun g : GSem nD τ sig => g.1.1) h, congrArg Prod.snd h2⟩

def cellEmb : Fin 8 × Dev nD × Dev nD ↪ GSem nD τ sig :=
  ⟨fun t => cell t.1 t.2.1 t.2.2, fun _ _ h => by obtain ⟨h1, h2, h3⟩ := cell_inj h; exact Prod.ext h1 (Prod.ext h2 h3)⟩

/-- The cells of the barrier, and of the exchanges. -/
abbrev barCells : Finset (GSem nD τ sig) := Finset.univ.map barEmb
abbrev boxCells : Finset (GSem nD τ sig) := Finset.univ.map cellEmb

theorem cells_apart : Disjoint barCells boxCells := by
  rw [Finset.disjoint_left]
  rintro g h₁ h₂
  obtain ⟨c, -, rfl⟩ := Finset.mem_map.mp h₁
  obtain ⟨t, -, h⟩ := Finset.mem_map.mp h₂
  have h : (cell t.1 t.2.1 t.2.2).2 = (bar c).2 := congrArg Prod.snd h
  cases h

/-! ## Families over the devices -/

theorem join {A B : Dev nD → sProp 𝕄} : iprop(bigSep Finset.univ A ∗ bigSep Finset.univ B) ⊢ bigSep Finset.univ fun c => iprop(A c ∗ B c) :=
  Entails.of_eq (bigSep_sep' _ _ _).symm
theorem split {A B : Dev nD → sProp 𝕄} : (bigSep Finset.univ fun c => iprop(A c ∗ B c)) ⊢ iprop(bigSep Finset.univ A ∗ bigSep Finset.univ B) :=
  Entails.of_eq (bigSep_sep' _ _ _)

/-! ## The duties -/

/-- The cell that the `k`-th copy of an exchange pays: on even arrays the sender's own, on odd ones the receiver's. -/
def paid (a : Fin 8) (c : Dev nD) (k : Fin 15) : GSem nD τ sig := if a.val % 2 = 0 then cell a c (peer c k) else cell a (peer c k) c

theorem paid_inj {a a' : Fin 8} {c c' : Dev nD} {k k' : Fin 15} (h : paid a c k = paid a' c' k') : a = a' ∧ c = c' ∧ k = k' := by
  unfold paid at h
  by_cases e : a.val % 2 = 0
  · by_cases e' : a'.val % 2 = 0
    · rw [if_pos e, if_pos e'] at h
      obtain ⟨rfl, rfl, h3⟩ := cell_inj h
      exact ⟨rfl, rfl, peer_inj c h3⟩
    · rw [if_pos e, if_neg e'] at h
      obtain ⟨rfl, -, -⟩ := cell_inj h
      exact absurd e e'
  · by_cases e' : a'.val % 2 = 0
    · rw [if_neg e, if_pos e'] at h
      obtain ⟨rfl, -, -⟩ := cell_inj h
      exact absurd e' e
    · rw [if_neg e, if_neg e'] at h
      obtain ⟨rfl, h2, rfl⟩ := cell_inj h
      exact ⟨rfl, rfl, peer_inj c h2⟩

def barTokEmb : Dev nD × Fin 15 ↪ GSem nD τ sig × ℕ × Dev nD where
  toFun t := (bar (peer t.1 t.2), 0, t.1)
  inj' t t' h := by
    have h1 : t.1 = t'.1 := congrArg (fun x : GSem nD τ sig × ℕ × Dev nD => x.2.2) h
    have h2 : peer t.1 t.2 = peer t'.1 t'.2 := congrArg (fun x : GSem nD τ sig × ℕ × Dev nD => x.1.1.1) h
    exact Prod.ext h1 (peer_inj t'.1 (by rw [← h2, h1]))
def boxTokEmb : Fin 8 × Dev nD × Fin 15 ↪ GSem nD τ sig × ℕ × Dev nD where
  toFun t := (paid t.1 t.2.1 t.2.2, 0, 0)
  inj' _ _ h := by
    obtain ⟨h1, h2, h3⟩ := paid_inj (congrArg Prod.fst h)
    exact Prod.ext h1 (Prod.ext h2 h3)
abbrev barToks : Finset (GSem nD τ sig × ℕ × Dev nD) := Finset.univ.map barTokEmb
abbrev boxToks : Finset (GSem nD τ sig × ℕ × Dev nD) := Finset.univ.map boxTokEmb
/-- One token for each duty: a unit for every peer's barrier cell, and what every copy pays. -/
abbrev toks : Finset (GSem nD τ sig × ℕ × Dev nD) := barToks ∪ boxToks

theorem toks_apart : Disjoint barToks boxToks := by
  rw [Finset.disjoint_left]
  rintro g h₁ h₂
  obtain ⟨c, -, rfl⟩ := Finset.mem_map.mp h₁
  obtain ⟨t, -, h⟩ := Finset.mem_map.mp h₂
  have h : (paid t.1 t.2.1 t.2.2).2 = (bar (peer c.1 c.2)).2 := congrArg (fun x : GSem nD τ sig × ℕ × Dev nD => x.1.2) h
  unfold paid at h
  split at h <;> cases h

/-- The tokens that the copies of one device need in array `a`. -/
def boxTok (a : Fin 8) (c : Dev nD) : sProp 𝕄 := bigSep (Finset.univ : Finset (Fin 15)) fun k => dutyTok (ER (F := F)) (paid a c k) 0 0

theorem boxTok_out (a : Fin 8) (c : Dev nD) (h : a.val % 2 = 0) : boxTok (F := F) a c = outTok (F := F) a c :=
  bigSep_congr fun k _ => by unfold paid; rw [if_pos h]
theorem boxTok_in (a : Fin 8) (c : Dev nD) (h : ¬ a.val % 2 = 0) : boxTok (F := F) a c = inTok (F := F) a c :=
  bigSep_congr fun k _ => by unfold paid; rw [if_neg h]

abbrev tokens8 (c : Dev nD) : sProp 𝕄 :=
  iprop((outTok (F := F) 0 c ∗ inTok (F := F) 1 c) ∗ (outTok (F := F) 2 c ∗ inTok (F := F) 3 c) ∗ (outTok (F := F) 4 c ∗ inTok (F := F) 5 c) ∗ (outTok (F := F) 6 c ∗ inTok (F := F) 7 c))

theorem toks_split : bigSep toks (fun x => (dutyTok ER x.1 x.2.1 x.2.2 : sProp 𝕄))
    ⊢ iprop((bigSep Finset.univ fun c : Dev nD => each fun k => dutyTok (ER (F := F)) (bar (peer c k)) 0 c) ∗ bigSep Finset.univ fun c : Dev nD => tokens8 (F := F) c) := by
  rw [BI.bigSep_union toks_apart, bigSep_map, bigSep_map,
    show (bigSep Finset.univ fun t => (dutyTok (ER (F := F)) (barTokEmb t).1 (barTokEmb t).2.1 (barTokEmb t).2.2 : sProp 𝕄))
      = bigSep Finset.univ fun c : Dev nD => each fun k => dutyTok (ER (F := F)) (bar (peer c k)) 0 c from bigSep_univ_prod _,
    show (bigSep Finset.univ fun t => (dutyTok (ER (F := F)) (boxTokEmb t).1 (boxTokEmb t).2.1 (boxTokEmb t).2.2 : sProp 𝕄))
      = bigSep (Finset.univ : Finset (Fin 8)) fun a => bigSep (Finset.univ : Finset (Dev nD)) fun c => boxTok (F := F) a c from
      (bigSep_univ_prod _).trans (bigSep_congr fun a _ => bigSep_univ_prod _),
    bigSep_univ_eq_bigSepL [(0 : Fin 8), 1, 2, 3, 4, 5, 6, 7] (by decide) (by decide)]
  show (BIBase.Entails (iprop(_ ∗ (bigSep Finset.univ fun c => boxTok (F := F) 0 c) ∗ (bigSep Finset.univ fun c => boxTok (F := F) 1 c) ∗ (bigSep Finset.univ fun c => boxTok (F := F) 2 c)
    ∗ (bigSep Finset.univ fun c => boxTok (F := F) 3 c) ∗ (bigSep Finset.univ fun c => boxTok (F := F) 4 c) ∗ (bigSep Finset.univ fun c => boxTok (F := F) 5 c)
    ∗ (bigSep Finset.univ fun c => boxTok (F := F) 6 c) ∗ (bigSep Finset.univ fun c => boxTok (F := F) 7 c)) : sProp 𝕄) _)
  iintro ⟨Hb, H0, H1, H2, H3, H4, H5, H6, H7⟩
  isplitl [Hb]; · iexact Hb
  iapply (show (bigSep Finset.univ fun c : Dev nD => iprop((boxTok (F := F) 0 c ∗ boxTok (F := F) 1 c) ∗ (boxTok (F := F) 2 c ∗ boxTok (F := F) 3 c)
      ∗ (boxTok (F := F) 4 c ∗ boxTok (F := F) 5 c) ∗ (boxTok (F := F) 6 c ∗ boxTok (F := F) 7 c)) : sProp 𝕄) ⊢ bigSep Finset.univ fun c : Dev nD => tokens8 (F := F) c from
    bigSep_mono fun c _ => by
      rw [boxTok_out 0 c (by decide), boxTok_in 1 c (by decide), boxTok_out 2 c (by decide), boxTok_in 3 c (by decide),
        boxTok_out 4 c (by decide), boxTok_in 5 c (by decide), boxTok_out 6 c (by decide), boxTok_in 7 c (by decide)]
      exact BI.Entails.refl _)
  iapply join; isplitl [H0 H1]
  · iapply join; isplitl [H0]; · iexact H0
    iexact H1
  iapply join; isplitl [H2 H3]
  · iapply join; isplitl [H2]; · iexact H2
    iexact H3
  iapply join; isplitl [H4 H5]
  · iapply join; isplitl [H4]; · iexact H4
    iexact H5
  iapply join; isplitl [H6]; · iexact H6
  iexact H7

/-! ## What launch deals -/

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells boxCells toks)

/-- The protocol's element is dealt whole: to device 0 alone. -/
def G (c : Dev nD) : sProp 𝕄 := if c = 0 then BI.own ((ER (F := F)) (launchOf barCells boxCells toks)) else iprop(emp)

theorem G_all : bigSep Finset.univ (G (F := F)) = BI.own ((ER (F := F)) (launchOf barCells boxCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What device `c` gets of the dealt protocol. -/
def dealt (c : Dev nD) : sProp 𝕄 :=
  iprop(atPos (ER (F := F)) (bar c) 0 ∅ 0 ∗ (bigSep (Finset.univ : Finset (Fin 8 × Dev nD)) fun p => openTok (ER (F := F)) (cell p.1 c p.2))
    ∗ (each fun k => dutyTok (ER (F := F)) (bar (peer c k)) 0 c) ∗ tokens8 (F := F) c)
/-- What else a device holds at launch. -/
def bundle (c : Dev nD) : sProp 𝕄 :=
  iprop(StableHlo.held (c : Thread nD τ) bufs (V₀ m c)
    ∗ ((inCred (F := F) 1 c ∗ inCred (F := F) 3 c ∗ inCred (F := F) 5 c ∗ inCred (F := F) 7 c) ∗ cred (tallyAt (bar c) () 15))
    ∗ owes (c : Thread nD τ) (O₀ c) ∅ ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (bar c) 0)

theorem start_intro (κ : GSem nD τ sig → ℕ) (c : Dev nD) : iprop(known (given m) κ ∗ (dealt (F := F) c ∗ bundle m c)) ⊢ T₀ m c := by
  unfold dealt bundle T₀ R Tk ghost
  iintro ⟨#HR, ⟨Hat, Hop, Hbt, Ht⟩, Hh, ⟨Hc, Hcb⟩, HO, Hp⟩
  isplitl [Hh]; · iexact Hh
  isplitr [HO]
  · isplitr [Hp]
    · iexists κ
      isplitr; · iexact HR
      isplitr [Hop]
      · isplitl [Hbt]; · iexact Hbt
        isplitl [Ht]; · iexact Ht
        isplitl [Hc]; · iexact Hc
        isplitl [Hcb]; · iexact Hcb
        iexact Hat
      iexact Hop
    iexact Hp
  iexists ∅; iexact HO

theorem opens_split : bigSep boxCells (fun g => (openTok ER g : sProp 𝕄))
    ⊢ bigSep Finset.univ fun c : Dev nD => bigSep (Finset.univ : Finset (Fin 8 × Dev nD)) fun p => openTok (ER (F := F)) (cell p.1 c p.2) := by
  let e : (Dev nD × (Fin 8 × Dev nD)) ≃ (Fin 8 × Dev nD × Dev nD) :=
    ⟨fun t => (t.2.1, t.1, t.2.2), fun t => (t.2.1, (t.1, t.2.2)), fun _ => rfl, fun _ => rfl⟩
  rw [bigSep_map, bigSep_univ_equiv e (fun t => (openTok (ER (F := F)) (cellEmb t) : sProp 𝕄)), bigSep_univ_prod]
  exact .rfl

theorem invs_bar (κ : GSem nD τ sig → ℕ) : bigSep barCells (fun g => (cellInv ER (sched (given m)) (κ g) g : sProp 𝕄))
    ⊢ bigSep (Finset.univ : Finset (Dev nD)) fun c => cellInv ER (sched (given m)) (κ (bar c)) (bar c) :=
  Entails.of_eq (bigSep_map (s := Finset.univ) barEmb (Φ := fun g => (cellInv ER (sched (given m)) (κ g) g : sProp 𝕄)))
theorem invs_box (κ : GSem nD τ sig → ℕ) : bigSep boxCells (fun g => (cellInv ER (sched (given m)) (κ g) g : sProp 𝕄))
    ⊢ bigSep (Finset.univ : Finset (Fin 8 × Dev nD × Dev nD)) fun t => cellInv ER (sched (given m)) (κ (cell t.1 t.2.1 t.2.2)) (cell t.1 t.2.1 t.2.2) :=
  Entails.of_eq (bigSep_map (s := Finset.univ) cellEmb (Φ := fun g => (cellInv ER (sched (given m)) (κ g) g : sProp 𝕄)))
theorem counters_join : (bigSep Finset.univ fun c : Dev nD => (semVal (bar c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem at_split : bigSep barCells (fun g => (atPos (ER (F := F)) g 0 ∅ 0 : sProp 𝕄)) ⊢ bigSep Finset.univ (fun c : Dev nD => (atPos (ER (F := F)) (bar c) 0 ∅ 0 : sProp 𝕄)) :=
  Entails.of_eq (bigSep_map (s := Finset.univ) barEmb (Φ := fun g : GSem nD τ sig => (atPos (ER (F := F)) g 0 ∅ 0 : sProp 𝕄)))
theorem reached_split : bigSep barCells (fun g => (reached (ER (F := F)) g 0 : sProp 𝕄)) ⊢ bigSep Finset.univ (fun c : Dev nD => (reached (ER (F := F)) (bar c) 0 : sProp 𝕄)) :=
  Entails.of_eq (bigSep_map (s := Finset.univ) barEmb (Φ := fun g : GSem nD τ sig => (reached (ER (F := F)) g 0 : sProp 𝕄)))

theorem at_launch (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (bar c) 0 ∗ G (F := F) c)) : sProp 𝕄) := by
  rw [show unscopedBufs c (fun b => m ((c : Thread nD τ).loc b)) = StableHlo.held (c : Thread nD τ) bufs (V₀ m c) from unscoped_held c (V₀ m c),
    unscoped_counters]
  unfold bundle
  iintro ⟨Hh, Hus, HO, Hcr, Hp, HG⟩
  ihave Hc := (credits (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The rounds library's launch over any cells, the invariants of the opened and the unopened ones apart. -/
theorem fund {S Sd : Finset (GSem nD τ sig)} (hSd : Disjoint S Sd) (T : Finset (GSem nD τ sig × ℕ × Dev nD)) :
    iprop(bigSep S (fun g => (semVal g 0 : sProp 𝕄)) ∗ BI.own ((ER (F := F)) (launchOf S Sd T)))
      ⊢ (|={Set.univ}=> ∃ κ : GSem nD τ sig → ℕ, (bigSep S (fun g => cellInv ER (sched (given m)) (κ g) g) ∗ bigSep Sd (fun g => cellInv ER (sched (given m)) (κ g) g))
        ∗ bigSep S (fun g => reached (ER (F := F)) g 0) ∗ bigSep S (fun g => atPos (ER (F := F)) g 0 ∅ 0)
        ∗ bigSep Sd (fun g => openTok (ER (F := F)) g) ∗ bigSep T (fun x => dutyTok (ER (F := F)) x.1 x.2.1 x.2.2) : sProp 𝕄) := by
  iintro H
  imod (Rounds.fund_launch ER (sched (given m)) hSd (fun g _ h => h) T) $$ H with ⟨%κ, -, Hinv, H⟩
  imodintro
  iexists κ
  isplitl [Hinv]; · iapply (Entails.of_eq (BI.bigSep_union hSd)); iexact Hinv
  iexact H

/-- The protocol at launch over any cells and tokens that split as needed. -/
theorem deal_of {S Sd : Finset (GSem nD τ sig)} (hSd : Disjoint S Sd) (T : Finset (GSem nD τ sig × ℕ × Dev nD))
    (hG : bigSep Finset.univ (G (F := F)) ⊢ BI.own ((ER (F := F)) (launchOf S Sd T)))
    (hv : (bigSep Finset.univ fun c : Dev nD => (semVal (bar c) 0 : sProp 𝕄)) ⊢ bigSep S (fun g => (semVal g 0 : sProp 𝕄)))
    (hb : ∀ κ : GSem nD τ sig → ℕ, bigSep S (fun g => (cellInv ER (sched (given m)) (κ g) g : sProp 𝕄))
      ⊢ bigSep (Finset.univ : Finset (Dev nD)) fun c => cellInv ER (sched (given m)) (κ (bar c)) (bar c))
    (hx : ∀ κ : GSem nD τ sig → ℕ, bigSep Sd (fun g => (cellInv ER (sched (given m)) (κ g) g : sProp 𝕄))
      ⊢ bigSep (Finset.univ : Finset (Fin 8 × Dev nD × Dev nD)) fun t => cellInv ER (sched (given m)) (κ (cell t.1 t.2.1 t.2.2)) (cell t.1 t.2.1 t.2.2))
    (hr : bigSep S (fun g => (reached (ER (F := F)) g 0 : sProp 𝕄)) ⊢ bigSep Finset.univ (fun c : Dev nD => (reached (ER (F := F)) (bar c) 0 : sProp 𝕄)))
    (ha : bigSep S (fun g => (atPos (ER (F := F)) g 0 ∅ 0 : sProp 𝕄)) ⊢ bigSep Finset.univ (fun c : Dev nD => (atPos (ER (F := F)) (bar c) 0 ∅ 0 : sProp 𝕄)))
    (ho : bigSep Sd (fun g => (openTok ER g : sProp 𝕄))
      ⊢ bigSep Finset.univ fun c : Dev nD => bigSep (Finset.univ : Finset (Fin 8 × Dev nD)) fun p => openTok (ER (F := F)) (cell p.1 c p.2))
    (ht : bigSep T (fun x => (dutyTok ER x.1 x.2.1 x.2.2 : sProp 𝕄))
      ⊢ iprop((bigSep Finset.univ fun c : Dev nD => each fun k => dutyTok (ER (F := F)) (bar (peer c k)) 0 c) ∗ bigSep Finset.univ fun c : Dev nD => tokens8 (F := F) c)) :
    iprop((bigSep Finset.univ fun c : Dev nD => semVal (bar c) 0) ∗ bigSep Finset.univ (G (F := F)) ∗ levAts L lv)
      ⊢ (|={Set.univ}=> ∃ κ, known (given m) κ ∗ bigSep Finset.univ (dealt (F := F)) : sProp 𝕄) := by
  iintro ⟨Hv, HG, #Hlev⟩
  ihave Hv := hv $$ Hv
  ihave Hu := hG $$ HG
  imod (fund m hSd T) $$ [Hv Hu] with ⟨%κ, ⟨Hb, Hx⟩, Hr, Hat, Hopen, Htok⟩
  · isplitl [Hv]; · iexact Hv
    iexact Hu
  imodintro
  iexists κ
  isplitl [Hb Hx Hr]
  · unfold known
    isplitl [Hb]; · iapply (hb κ); iexact Hb
    isplitl [Hx]; · iapply (hx κ); iexact Hx
    isplitl [Hr]; · iapply hr; iexact Hr
    iexact Hlev
  unfold dealt
  ihave Ht := ht $$ Htok
  icases Ht with ⟨Hbt, Ht⟩
  iapply join; isplitl [Hat]; · iapply ha; iexact Hat
  iapply join; isplitl [Hopen]; · iapply ho; iexact Hopen
  iapply join; isplitl [Hbt]; · iexact Hbt
  iexact Ht

/-- The protocol at launch: every cell's invariant, and what each device gets of it. -/
theorem deal : iprop((bigSep Finset.univ fun c : Dev nD => semVal (bar c) 0) ∗ bigSep Finset.univ (G (F := F)) ∗ levAts L lv)
    ⊢ (|={Set.univ}=> ∃ κ, known (given m) κ ∗ bigSep Finset.univ (dealt (F := F)) : sProp 𝕄) :=
  deal_of m cells_apart toks (Entails.of_eq G_all) counters_join (invs_bar m) (invs_box m) reached_split at_split opens_split toks_split

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (bar c) 0 ∗ G (F := F) c)) : sProp 𝕄) from bigSep_mono fun c _ => at_launch m ρ c) $$ H
  ihave H2 := split $$ H'; icases H2 with ⟨HB, H3⟩
  ihave H4 := split $$ H3; icases H4 with ⟨Hv, HG⟩
  imod (deal m) $$ [Hv HG] with ⟨%κ, #HP, HD⟩
  · isplitl [Hv]; · iexact Hv
    isplitl [HG]; · iexact HG
    iexact Hlev
  imodintro
  iapply (bigSep_with_persistent (R := known (given m) κ) (Φ := fun c => iprop(dealt (F := F) c ∗ bundle m c)) fun c _ => start_intro m κ c)
  isplitr; · iexact HP
  iapply join
  isplitl [HD]; · iexact HD
  iexact HB

/-! ## The run -/

theorem bufs_eq (c : Dev nD) (W : Valuation τ sig (Elt F)) : (StableHlo.held (c : Thread nD τ) bufs W : sProp 𝕄)
    = iprop(pts c main_arg0 Finset.univ fullShare (W main_arg0) ∗ pts c main_arg1 Finset.univ fullShare (W main_arg1) ∗ pts c main_arg2 Finset.univ fullShare (W main_arg2)
      ∗ pts c main_arg3 Finset.univ fullShare (W main_arg3) ∗ pts c main_arg4 Finset.univ fullShare (W main_arg4)
      ∗ pts c main_v1 Finset.univ fullShare (W main_v1) ∗ pts c main_v2 Finset.univ fullShare (W main_v2) ∗ pts c main_v3 Finset.univ fullShare (W main_v3)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3] (by decide +kernel) (by decide +kernel)]
  rfl

set_option backward.isDefEq.respectTransparency.types false in
/-- From any memory with zero counters every run of the program on the sixteen devices ends; the arguments are then unchanged,
    the result is the exchange's result on every device, and every counter is zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v3) = result (given m)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => region_pre m c, fun c => (region_post m c).trans ?_⟩
      show iprop(StableHlo.held (c : Thread nD τ) bufs (V₂ m c)
          ∗ (semVal (bar c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO)
    (hinit := init m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_arg4) = V₂ m c main_arg4) ∧ s.mem ((c : Thread nD τ).loc main_v3) = V₂ m c main_v3)
      ∧ s.sem (bar c) = 0)
    (hfin := fun c s' => by
      dsimp only [Tₙ]; rw [bufs_eq]
      iintro ⟨⟨⟨H0, H1, H2, H3, H4, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ h5⟩, by simpa using hb⟩
      iexact HSI)
    (hQ := fun s h hs => ⟨fun c => by
        obtain ⟨⟨⟨h0, h1, h2, h3, h4⟩, h5⟩, -⟩ := h c
        exact ⟨⟨h0.trans ((V₂_same m c _ (by decide)).trans (V_main_arg0 m c)), h1.trans ((V₂_same m c _ (by decide)).trans (V_main_arg1 m c)),
          h2.trans ((V₂_same m c _ (by decide)).trans (V_main_arg2 m c)), h3.trans ((V₂_same m c _ (by decide)).trans (V_main_arg3 m c)),
          h4.trans ((V₂_same m c _ (by decide)).trans (V_main_arg4 m c))⟩, h5.trans (V₂_result m c)⟩,
      sem_eq_zero hs fun c sm hsm => by
        obtain rfl := unscoped_sem sm hsm
        exact (h c).2⟩)

end Cert.KernelIdeal.Own

end
-- ==== Proof.Frames.lean ====
/- The frames: each program runs, leaves its arguments and ends with every semaphore counter at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option synthInstance.maxSize 4096

noncomputable section

namespace Cert.Proof

open Idealize.ShloMosaic Idealize.ShloMosaic.Tactic Idealize.SL.Sem

/-- What a frame says of the kernel's run, over any floats. -/
theorem frame_any (F : FTy → Type) [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0) :=
  (θ_run Cert.KernelIdeal.defs _ _).mono (fun _ h => ⟨fun c => (h.1 c).1, h.2⟩) (Cert.KernelIdeal.Own.run_main (F := F) m ρ)

/-- The two prints of the kernel are one program, so their frames say the same. -/
theorem same_frame : Cert.quiescent_Kernel =
    (∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0)) := by chain_rfl

/-- The kernel's frame, over floats as stored. -/
theorem frame_kernel : Cert.quiescent_Kernel := same_frame.mpr fun m ρ _ => frame_any Bits m ρ

/-- The kernel's frame, over the extended reals. -/
theorem frame_kernelIdeal : Cert.quiescent_KernelIdeal := fun m ρ _ => frame_any Ideal m ρ

/-- The reference's frame. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Attend.lean ====
/- The mathematics that the kernel and the reference share: which blocks meet, and one entry of one head's attention. -/
module

public import Idealize.ShloMosaic.Lib.Pointwise

@[expose] public section

noncomputable section

namespace Cert.Proof

open Idealize.ShloMosaic

/-- Whether a block of query rows meets a block of key rows: the same block, the first block of keys, or the sum of the two a multiple of three. -/
def meets (a : Fin 4) (b : Fin 64) : BitVec 1 := BitVec.ofBool (a.val == b.val || b.val == 0 || (a.val + b.val) % 3 == 0)

/-- Whether a query row is let see a key row. -/
def sees (i : Fin 256) (j : Fin 4096) : BitVec 1 := meets ⟨i.val / 64, by omega⟩ ⟨j.val / 64, by omega⟩

/-- A query row's score with a key row: the scaled product, or the large negative number where the mask hides the key. -/
def score (msk : Fin 4096 → BitVec 1) (q : Fin 64 → EReal) (K : Fin 4096 → Fin 64 → EReal) (j : Fin 4096) : EReal :=
  Scalar.select (msk j) ((∑ d : Fin 64, q d * K j d) * Ideal.ofBits .f32 0x3E000000#32) (Ideal.ofBits .f32 0xCE6E6B28#32)

/-- The exponential of a score, less the largest of the row. -/
def power (s : Fin 4096 → EReal) (j : Fin 4096) : EReal :=
  Ideal.exp (s j - Finset.univ.fold max (Ideal.ofBits .f32 0xFF800000#32) fun j' : Fin 4096 => s j')

/-- The weighted sum of a column of values: each weight is a power over the sum of the powers. -/
def average (s : Fin 4096 → EReal) (v : Fin 4096 → EReal) : EReal :=
  ∑ j : Fin 4096, Ideal.div (power s j) (∑ j' : Fin 4096, power s j') * v j

end Cert.Proof

end
-- ==== Proof.Heads.lean ====
/- A device's partial result as the sum of its heads, and one head read at an index. -/
module

public import proofs.«01_k».proof.Proof.Loops
public import proofs.«01_k».proof.Proof.Attend

@[expose] public section

set_option synthInstance.maxSize 4096
set_option maxRecDepth 16384

noncomputable section

namespace Cert.KernelIdeal.Own

open Idealize.ShloMosaic Idealize.SL.Sem
open Cert.KernelIdeal Cert.KernelIdeal.Gen Cert.Proof

/-- The gathered slabs of one head as one matrix of 4096 rows. -/
def rows (g : Vec Ideal S16x1x256x64 .bf16) : FVec Ideal S4096x64 .bf16 :=
  shapeCast S4096x64 (shapeCast S16x256x64 g shapeCasts_S16x1x256x64_S16x256x64) shapeCasts_S16x256x64_S4096x64

/-- The scaled and masked scores of one head. -/
def headScores (q : FVec Ideal S256x64 .bf16) (k : FVec Ideal S4096x64 .bf16) : FVec Ideal S256x4096 .f32 :=
  select keepMask
    (mulf (matmul dot_S256x64_S4096x64_S256x4096_1_1_0_0_n_n none q k (constant S256x4096 .f32 0x00000000#32)) (broadcast S256x4096 (Scalar.ofBits .f32 0x3E000000#32)))
    (broadcast S256x4096 (Scalar.ofBits .f32 0xCE6E6B28#32))

/-- The exponentials of scores, each less its row's largest. -/
def headPowers (s : FVec Ideal S256x4096 .f32) : FVec Ideal S256x4096 .f32 :=
  exp (subf s (broadcastTo S256x4096 (shapeCast S256x1 (multiReduction .maximumf [1] S256 s 0xFF800000#32 reduces_S256x4096_S256 (.inl rfl) rfl) shapeCasts_S256_S256x1) broadcasts_S256x1_S256x4096))

/-- Each row of the exponentials over its sum. -/
def headWeights (e : FVec Ideal S256x4096 .f32) : FVec Ideal S256x4096 .f32 :=
  divf e (broadcastTo S256x4096 (shapeCast S256x1 (multiReduction .add [1] S256 e 0x00000000#32 reduces_S256x4096_S256 (.inl rfl) rfl) shapeCasts_S256_S256x1) broadcasts_S256x1_S256x4096)

/-- What one head adds to a batch's accumulator: its queries from column `c` and row `r` of `q`, its rows of the last projection from row `c`. -/
def headTerm (q : FVec Ideal S512x256 .f32) (w : FVec Ideal S256x512 .bf16) (k v : Vec Ideal S16x1x256x64 .bf16) (r c : Nat)
    (hq : S512x256.Slices ![r, c] S256x64) (hw : S256x512.Slices ![c, 0] S64x512) : FVec Ideal S256x512 .f32 :=
  matmul dot_S256x64_S64x512_S256x512_1_0_0_1_n_n none
    (truncf .bf16 (matmul dot_S256x4096_S4096x64_S256x64_1_0_0_1_n_n none
      (truncf .bf16 (headWeights (headPowers (headScores (truncf .bf16 (extractStridedSlice S256x64 ![r, c] q hq) bitsLt_bf16_f32) (rows k)))) bitsLt_bf16_f32)
      (rows v) (constant S256x64 .f32 0x00000000#32)) bitsLt_bf16_f32)
    (extractStridedSlice S64x512 ![c, 0] w hw) (constant S256x512 .f32 0x00000000#32)

/-- Four heads' terms added to zero, in order. -/
def four (t : Fin 4 → FVec Ideal S256x512 .f32) : FVec Ideal S256x512 .f32 :=
  addf (addf (addf (addf (broadcast S256x512 (Scalar.ofBits .f32 0x00000000#32)) (t 0)) (t 1)) (t 2)) (t 3)

/-- The two batches' accumulators one after the other. -/
def stack (a b : FVec Ideal S256x512 .f32) : FVec Ideal S2x256x512 .f32 :=
  shapeCast S2x256x512 (concatenate S2x256x512 0 [⟨S1x256x512, shapeCast S1x256x512 a shapeCasts_S256x512_S1x256x512⟩, ⟨S1x256x512, shapeCast S1x256x512 b shapeCasts_S256x512_S1x256x512⟩] concatenates_S1x256x512_S1x256x512_S2x256x512_d0) shapeCasts_S2x256x512_S2x256x512

/-- The partial result is the heads' terms, by batch. -/
theorem partialOut_eq (x : Vec Ideal S2x256x512 .bf16) (wq : Vec Ideal S512x256 .bf16) (wo : Vec Ideal S256x512 .bf16) (kk vv : Fin 8 → Vec Ideal S16x1x256x64 .bf16) :
    partialOut x wq wo kk vv
      = stack
          (four ![headTerm (k0_pay3 x wq) (k0_pay10 wo) (kk 0) (vv 0) 0 0 slices_S512x256_o0_0_S256x64 slices_S256x512_o0_0_S64x512,
            headTerm (k0_pay3 x wq) (k0_pay10 wo) (kk 1) (vv 1) 0 64 slices_S512x256_o0_64_S256x64 slices_S256x512_o64_0_S64x512,
            headTerm (k0_pay3 x wq) (k0_pay10 wo) (kk 2) (vv 2) 0 128 slices_S512x256_o0_128_S256x64 slices_S256x512_o128_0_S64x512,
            headTerm (k0_pay3 x wq) (k0_pay10 wo) (kk 3) (vv 3) 0 192 slices_S512x256_o0_192_S256x64 slices_S256x512_o192_0_S64x512])
          (four ![headTerm (k0_pay3 x wq) (k0_pay10 wo) (kk 4) (vv 4) 256 0 slices_S512x256_o256_0_S256x64 slices_S256x512_o0_0_S64x512,
            headTerm (k0_pay3 x wq) (k0_pay10 wo) (kk 5) (vv 5) 256 64 slices_S512x256_o256_64_S256x64 slices_S256x512_o64_0_S64x512,
            headTerm (k0_pay3 x wq) (k0_pay10 wo) (kk 6) (vv 6) 256 128 slices_S512x256_o256_128_S256x64 slices_S256x512_o128_0_S64x512,
            headTerm (k0_pay3 x wq) (k0_pay10 wo) (kk 7) (vv 7) 256 192 slices_S512x256_o256_192_S256x64 slices_S256x512_o192_0_S64x512]) := by
  chain_rfl

/-- The blocks of the query rows. -/
def queryBlocks : IVec S256x4096 32 := k0_pay6 (iota .tc S256x4096 32 [0] iota_S256x4096_d0_w32) 64#32 k0_pay4 k0_pay5

/-- A query row's block is its number over 64. -/
theorem queryBlocks_apply (i : Fin 256) (j : Fin 4096) : queryBlocks (ix2 i j) = BitVec.ofNat 32 (i.val / 64) := by
  pointwise [queryBlocks, k0_pay4, k0_pay5, k0_pay6]
  clear j
  revert i
  decide +kernel

/-- A key row's block is its number over 64. -/
theorem keyBlocks_apply (i : Fin 256) (j : Fin 4096) : k0_pay7 (ix2 i j) = BitVec.ofNat 32 (j.val / 64) := by
  pointwise [k0_pay7]
  clear i
  revert j
  decide +kernel

/-- The kernel's mask lets a row see what `sees` says. -/
theorem keepMask_apply (i : Fin 256) (j : Fin 4096) : keepMask (ix2 i j) = sees i j := by
  have key : ∀ (a : Fin 4) (b : Fin 64) (qb kb : IVec S256x4096 32), qb (ix2 i j) = BitVec.ofNat 32 a.val →
      kb (ix2 i j) = BitVec.ofNat 32 b.val → k0_pay9 qb kb (cmpi .eq qb kb) 0#32 (ix2 i j) = meets a b := by
    intro a b qb kb ha hb
    pointwise [k0_pay9]
    rw [ha, hb]
    clear ha hb
    revert a b
    decide +kernel
  exact key ⟨i.val / 64, by omega⟩ ⟨j.val / 64, by omega⟩ queryBlocks k0_pay7 (queryBlocks_apply i j) (keyBlocks_apply i j)

/-- The rows of a head's gathered slabs: row `j` is row `j % 256` of device `j / 256`. -/
theorem rows_apply (g : Vec Ideal S16x1x256x64 .bf16) (j : Fin 4096) (d : Fin 64) :
    rows g (ix2 j d) = g (ix4 (⟨j.val / 256, by omega⟩ : Fin 16) (0 : Fin 1) (⟨j.val % 256, by omega⟩ : Fin 256) d) := by
  pointwise [rows]

theorem headScores_apply (q : FVec Ideal S256x64 .bf16) (k : FVec Ideal S4096x64 .bf16) (i : Fin 256) (j : Fin 4096) :
    headScores q k (ix2 i j) = score (sees i) (fun d => q (ix2 i d)) (fun j d => k (ix2 j d)) j := by
  pointwise [headScores, score]
  rw [keepMask_apply]

theorem headPowers_apply (s : FVec Ideal S256x4096 .f32) (i : Fin 256) (j : Fin 4096) :
    headPowers s (ix2 i j) = power (fun j => s (ix2 i j)) j := by
  pointwise [headPowers, power]

theorem headWeights_apply (e : FVec Ideal S256x4096 .f32) (i : Fin 256) (j : Fin 4096) :
    headWeights e (ix2 i j) = Ideal.div (e (ix2 i j)) (∑ j' : Fin 4096, e (ix2 i j')) := by
  pointwise [headWeights]

theorem headTerm_apply (q : FVec Ideal S512x256 .f32) (w : FVec Ideal S256x512 .bf16) (k v : Vec Ideal S16x1x256x64 .bf16) (r c : Nat)
    (hr : r ≤ 256) (hc : c ≤ 192)
    (hq : S512x256.Slices ![r, c] S256x64) (hw : S256x512.Slices ![c, 0] S64x512) (i : Fin 256) (n : Fin 512) :
    headTerm q w k v r c hq hw (ix2 i n)
      = ∑ d : Fin 64, average (score (sees i) (fun d' => q (ix2 ⟨r + i.val, by omega⟩ ⟨c + d'.val, by omega⟩)) (fun j d' => rows k (ix2 j d'))) (fun j => rows v (ix2 j d))
          * w (ix2 ⟨c + d.val, by omega⟩ n) := by
  pointwise [headTerm, headWeights_apply, headPowers_apply, headScores_apply, average]

theorem stack_apply (a b : FVec Ideal S256x512 .f32) (i : Fin 256) (n : Fin 512) :
    stack a b (ix3 0 i n) = a (ix2 i n) ∧ stack a b (ix3 1 i n) = b (ix2 i n) := by
  constructor <;> pointwise [stack]

theorem four_apply (t : Fin 4 → FVec Ideal S256x512 .f32) (i : Fin 256) (n : Fin 512) :
    four t (ix2 i n) = ∑ h : Fin 4, t h (ix2 i n) := by
  rw [Fin.sum_univ_four]
  pointwise [four]

end Cert.KernelIdeal.Own

end
-- ==== Proof.Reference.lean ====
/- The reference's result in named stages. -/
module

public import proofs.«01_k».proof.Proof.Gen.ReferenceIdeal
public import proofs.«01_k».proof.Proof.Gen.ReferenceIdeal.Run
public import Idealize.ShloMosaic.Lib.Pointwise

@[expose] public section

set_option synthInstance.maxSize 4096

noncomputable section

namespace Cert.ReferenceIdeal.Own

open Idealize.ShloMosaic Idealize.ShloMosaic.TcCoe Idealize.SL.Sem
open Cert.ReferenceIdeal Cert.ReferenceIdeal.Gen Cert.ReferenceIdeal.Facts

/-- The block of 64 rows that a query row lies in. -/
def qBlock : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- The block of 64 rows that a key row lies in. -/
def kBlock : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The modulus of the strided blocks. -/
def three : IVec S_ 32 := select (cmpi .eq (id (constantI S_ 32 3#32)) (constantI S_ 32 0#32)) (constantI S_ 32 1#32) (id (constantI S_ 32 3#32))

/-- Which pairs of a query and a key row are kept, of the blocks they lie in. -/
def maskOf (qb : IVec S256 32) (kb : IVec S4096 32) : IVec S256x4096 1 :=
  have q : IVec S256x4096 32 := broadcastInDim S256x4096 ![0, 1] bcast_S256x1_S256x4096_0_1 (broadcastInDim S256x1 ![0] bcast_S256_S256x1_0 qb)
  have k : IVec S256x4096 32 := broadcastInDim S256x4096 ![0, 1] bcast_S1x4096_S256x4096_0_1 (broadcastInDim S1x4096 ![1] bcast_S4096_S1x4096_1 kb)
  have r : IVec S256x4096 32 := Host.remsi (addi q k) (broadcastInDim S256x4096 ![] bcast_S_S256x4096 three)
  ori (ori (cmpi .eq q k) (broadcastInDim S256x4096 ![0, 1] bcast_S1x4096_S256x4096_0_1 (cmpi .eq (broadcastInDim S1x4096 ![1] bcast_S4096_S1x4096_1 kb) (broadcastInDim S1x4096 ![] bcast_S_S1x4096 (constantI S_ 32 0#32))))) (cmpi .eq (select (andi (cmpi .ne (cmpi .slt r (broadcastInDim S256x4096 ![] bcast_S_S256x4096 (constantI S_ 32 0#32))) (broadcastInDim S256x4096 ![] bcast_S_S256x4096 (cmpi .slt three (constantI S_ 32 0#32)))) (cmpi .ne r (broadcastInDim S256x4096 ![] bcast_S_S256x4096 (constantI S_ 32 0#32)))) (addi r (broadcastInDim S256x4096 ![] bcast_S_S256x4096 three)) r) (broadcastInDim S256x4096 ![] bcast_S_S256x4096 (constantI S_ 32 0#32)))

/-- The reference's mask. -/
def mask : IVec S256x4096 1 := maskOf qBlock kBlock

/-- The query rows that a mask keeps anything of. -/
def rowKeep (msk : IVec S256x4096 1) : IVec S256 1 := Host.reduce IntOp.ori msk (constantI S_ 1 0#1) reducesTo_S256x4096_S256_d1 h_S_

/-- The queries. -/
def queries (x : FVec Ideal S2x256x512 .bf16) (wq : FVec Ideal S512x4096 .bf16) : FVec Ideal S2x256x64x64 .f32 :=
  shapeCast _ (extf .f32 (truncf .bf16 (Host.dotGeneral dot_S2x256x512_S512x4096_S2x256x4096_2_0_01_1_n_n none (extf .f32 x bitsLt_bf16_f32) (extf .f32 wq bitsLt_bf16_f32)) bitsLt_bf16_f32) bitsLt_bf16_f32) shapeCasts_S2x256x4096_S2x256x64x64

/-- The masked scores. -/
def scores (msk : IVec S256x4096 1) (q : FVec Ideal S2x256x64x64 .f32) (k : FVec Ideal S2x4096x64x64 .bf16) : FVec Ideal S2x64x256x4096 .f32 :=
  select (broadcastInDim S2x64x256x4096 ![0, 1, 2, 3] bcast_S1x1x256x4096_S2x64x256x4096_0_1_2_3 (broadcastInDim S1x1x256x4096 ![2, 3] bcast_S256x4096_S1x1x256x4096_2_3 msk)) (mulf (extf .f32 (truncf .bf16 (Host.dotGeneral dot_S2x256x64x64_S2x4096x64x64_S2x64x256x4096_3_3_1_1_02_02 none q (extf .f32 k bitsLt_bf16_f32)) bitsLt_bf16_f32) bitsLt_bf16_f32) (broadcastInDim S2x64x256x4096 ![] bcast_S_S2x64x256x4096 (constant S_ .f32 0x3E000000#32))) (broadcastInDim S2x64x256x4096 ![] bcast_S_S2x64x256x4096 (id (constant S_ .f32 0xCE6E6B28#32)))

/-- The exponentials of the scores, each less its row's largest. -/
def powers (s : FVec Ideal S2x64x256x4096 .f32) : FVec Ideal S2x64x256x4096 .f32 :=
  Host.exp (subf s (broadcastInDim S2x64x256x4096 ![0, 1, 2, 3] bcast_S2x64x256x1_S2x64x256x4096_0_1_2_3 (broadcastInDim S2x64x256x1 ![0, 1, 2] bcast_S2x64x256_S2x64x256x1_0_1_2 (Host.reduce FloatOps.maximumf s (constant S_ .f32 0xFF800000#32) reducesTo_S2x64x256x4096_S2x64x256_d3 h_S_))))

/-- The weights: each row of the exponentials over its sum, of the rows that are kept. -/
def weights (keep : IVec S256 1) (e : FVec Ideal S2x64x256x4096 .f32) : FVec Ideal S2x64x256x4096 .f32 :=
  select (broadcastInDim S2x64x256x4096 ![0, 1, 2, 3] bcast_S1x1x256x1_S2x64x256x4096_0_1_2_3 (broadcastInDim S1x1x256x1 ![2] bcast_S256_S1x1x256x1_2 keep)) (Host.divf e (broadcastInDim S2x64x256x4096 ![0, 1, 2, 3] bcast_S2x64x256x1_S2x64x256x4096_0_1_2_3 (select (broadcastInDim S2x64x256x1 ![0, 1, 2, 3] bcast_S1x1x256x1_S2x64x256x1_0_1_2_3 (broadcastInDim S1x1x256x1 ![2] bcast_S256_S1x1x256x1_2 keep)) (broadcastInDim S2x64x256x1 ![0, 1, 2] bcast_S2x64x256_S2x64x256x1_0_1_2 (Host.reduceAdd e (constant S_ .f32 0x00000000#32) reducesTo_S2x64x256x4096_S2x64x256_d3 h_S_)) (broadcastInDim S2x64x256x1 ![] bcast_S_S2x64x256x1 (id (constant S_ .f32 0x3F800000#32)))))) (broadcastInDim S2x64x256x4096 ![] bcast_S_S2x64x256x4096 (id (constant S_ .f32 0x00000000#32)))

/-- The result, of the weights. -/
def output (w : FVec Ideal S2x64x256x4096 .f32) (v : FVec Ideal S2x4096x64x64 .bf16) (wo : FVec Ideal S4096x512 .bf16) : FVec Ideal S2x256x512 .f32 :=
  Host.dotGeneral dot_S2x256x4096_S4096x512_S2x256x512_2_0_01_1_n_n none (shapeCast _ (transpose S2x256x64x64 [0, 3, 1, 2] (Host.dotGeneral dot_S2x4096x64x64_S2x64x256x4096_S2x64x64x256_1_3_3_2_02_01 none (extf .f32 v bitsLt_bf16_f32) w) transposes_S2x64x64x256_S2x256x64x64_0_3_1_2) shapeCasts_S2x256x64x64_S2x256x4096) (extf .f32 wo bitsLt_bf16_f32)

/-- The reference's result, of its arguments. -/
def whole (x : FVec Ideal S2x256x512 .bf16) (wq : FVec Ideal S512x4096 .bf16) (k v : FVec Ideal S2x4096x64x64 .bf16) (wo : FVec Ideal S4096x512 .bf16) : FVec Ideal S2x256x512 .f32 :=
  output (weights (rowKeep mask) (powers (scores mask (queries x wq) k))) v wo

/-- The printed term is the stages. -/
theorem res_eq_whole (m : (ℓ : Loc nD τ sig) → Buf (Elt Ideal) ℓ) (c : Dev nD) :
    Cert.ReferenceIdeal.Value.res_main_v53 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by chain_rfl

end Cert.ReferenceIdeal.Own

end
-- ==== Proof.RefValue.lean ====
/- The reference's stages read at an index. -/
module

public import proofs.«01_k».proof.Proof.Reference
public import proofs.«01_k».proof.Proof.Attend
public import Idealize.ShloMosaic.Lib.Routing.OpsOrder

@[expose] public section

set_option synthInstance.maxSize 4096
set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Facts Cert.Proof

/-- A query row's block is its number over 64. -/
theorem qBlock_apply (i : Fin 256) : qBlock (ix1 i) = BitVec.ofNat 32 (i.val / 64) := by
  pointwise [qBlock, id]
  revert i
  decide +kernel

/-- A key row's block is its number over 64. -/
theorem kBlock_apply (j : Fin 4096) : kBlock (ix1 j) = BitVec.ofNat 32 (j.val / 64) := by
  pointwise [kBlock, id]
  revert j
  decide +kernel

/-- The mask lets a row see what `sees` says. -/
theorem mask_apply (i : Fin 256) (j : Fin 4096) : mask (ix2 i j) = sees i j := by
  have key : ∀ (a : Fin 4) (b : Fin 64) (qb : IVec S256 32) (kb : IVec S4096 32), qb (ix1 i) = BitVec.ofNat 32 a.val →
      kb (ix1 j) = BitVec.ofNat 32 b.val → maskOf qb kb (ix2 i j) = meets a b := by
    intro a b qb kb ha hb
    pointwise [maskOf, three, id]
    rw [ha, hb]
    clear ha hb
    revert a b
    decide +kernel
  exact key ⟨i.val / 64, by omega⟩ ⟨j.val / 64, by omega⟩ qBlock kBlock (qBlock_apply i) (kBlock_apply j)

/-- Every query row sees the first key row. -/
theorem sees_first (i : Fin 256) : sees i 0 = 1#1 := by
  have h : ∀ a : Fin 4, meets a 0 = 1#1 := by decide
  exact h _

/-- No query row is masked whole. -/
theorem rowKeep_mask (i : Fin 256) : rowKeep mask (ix1 i) = 1#1 := by
  pointwise [rowKeep]
  rw [Routing.fold_ori]
  exact ⟨0, Finset.mem_univ _, (mask_apply i 0).trans (sees_first i)⟩

/-- The queries at an index. -/
theorem queries_apply (x : FVec Ideal S2x256x512 .bf16) (wq : FVec Ideal S512x4096 .bf16) (b : Fin 2) (i : Fin 256) (h d : Fin 64) :
    queries x wq (ix4 b i h d) = ∑ t : Fin 512, x (ix3 b i t) * wq (ix2 t ⟨h.val * 64 + d.val, by omega⟩) := by
  pointwise [queries]

/-- The masked scores at an index. -/
theorem scores_apply (msk : IVec S256x4096 1) (q : FVec Ideal S2x256x64x64 .f32) (k : FVec Ideal S2x4096x64x64 .bf16) (b : Fin 2) (h : Fin 64) (i : Fin 256) (j : Fin 4096) :
    scores msk q k (ix4 b h i j) = score (fun j => msk (ix2 i j)) (fun d => q (ix4 b i h d)) (fun j d => k (ix4 b j h d)) j := by
  pointwise [scores, score, id]

/-- The powers at an index. -/
theorem powers_apply (s : FVec Ideal S2x64x256x4096 .f32) (b : Fin 2) (h : Fin 64) (i : Fin 256) (j : Fin 4096) :
    powers s (ix4 b h i j) = power (fun j => s (ix4 b h i j)) j := by
  pointwise [powers, power]

/-- The weights of a row that is kept, at an index. -/
theorem weights_apply (keep : IVec S256 1) (e : FVec Ideal S2x64x256x4096 .f32) (b : Fin 2) (h : Fin 64) (i : Fin 256) (j : Fin 4096)
    (hk : keep (ix1 i) = 1#1) :
    weights keep e (ix4 b h i j) = Ideal.div (e (ix4 b h i j)) (∑ j' : Fin 4096, e (ix4 b h i j')) := by
  pointwise [weights, id]
  rw [hk]
  rfl

/-- The result at an index, of the weights. -/
theorem output_apply (w : FVec Ideal S2x64x256x4096 .f32) (v : FVec Ideal S2x4096x64x64 .bf16) (wo : FVec Ideal S4096x512 .bf16) (b : Fin 2) (i : Fin 256) (n : Fin 512) :
    output w v wo (ix3 b i n) = ∑ x : Fin 4096, (∑ j : Fin 4096, v (ix4 b j ⟨x.val / 64, by omega⟩ ⟨x.val % 64, by omega⟩) * w (ix4 b ⟨x.val / 64, by omega⟩ i j)) * wo (ix2 x n) := by
  pointwise [output]

/-- The reference at an index: the sum over the heads' columns of the attention's entry times the last projection's. -/
theorem whole_apply (x : FVec Ideal S2x256x512 .bf16) (wq : FVec Ideal S512x4096 .bf16) (k v : FVec Ideal S2x4096x64x64 .bf16) (wo : FVec Ideal S4096x512 .bf16)
    (b : Fin 2) (i : Fin 256) (n : Fin 512) :
    whole x wq k v wo (ix3 b i n)
      = ∑ e : Fin 4096, average (score (sees i) (fun d => ∑ t : Fin 512, x (ix3 b i t) * wq (ix2 t ⟨e.val / 64 * 64 + d.val, by omega⟩))
            (fun j d => k (ix4 b j ⟨e.val / 64, by omega⟩ d))) (fun j => v (ix4 b j ⟨e.val / 64, by omega⟩ ⟨e.val % 64, by omega⟩)) * wo (ix2 e n) := by
  rw [whole, output_apply]
  refine Finset.sum_congr rfl fun e _ => congrArg (· * _) ?_
  rw [average]
  refine Finset.sum_congr rfl fun j _ => ?_
  rw [weights_apply _ _ _ _ _ _ (rowKeep_mask i), mul_comm]
  simp only [powers_apply, scores_apply, queries_apply, mask_apply]

end Cert.ReferenceIdeal.Own

end
-- ==== Proof.Value.lean ====
/- The kernel's result read at an index, and its equality with the reference's. -/
module

public import proofs.«01_k».proof.Proof.Heads
public import proofs.«01_k».proof.Proof.Pieces
public import proofs.«01_k».proof.Proof.RefValue

@[expose] public section

set_option synthInstance.maxSize 4096
set_option maxRecDepth 16384

noncomputable section

namespace Cert.KernelIdeal.Own

open Idealize.ShloMosaic Idealize.SL.Sem
open Cert.KernelIdeal Cert.KernelIdeal.Gen Cert.Proof

/-! ## Sums -/

/-- A sum over the first `m * n` numbers, by quotient and remainder. -/
theorem sum_blocks (m n : Nat) (f : Fin (m * n) → EReal) :
    ∑ e, f e = ∑ a : Fin m, ∑ b : Fin n, f (finProdFinEquiv (a, b)) := by
  rw [← Fintype.sum_prod_type' (f := fun a b => f (finProdFinEquiv (a, b)))]
  exact (Equiv.sum_comp finProdFinEquiv f).symm

/-- A sum over all the heads' columns, by device, head of the device and column of the head. -/
theorem sum_columns (f : Fin 4096 → EReal) :
    ∑ e, f e = ∑ c : Fin 16, ∑ h : Fin 4, ∑ d : Fin 64, f ⟨256 * c.val + (64 * h.val + d.val), by omega⟩ := by
  refine (sum_blocks 16 256 f).trans (Finset.sum_congr rfl fun c _ => (sum_blocks 4 64 fun x => f (finProdFinEquiv (c, x))).trans ?_)
  refine Finset.sum_congr rfl fun h _ => Finset.sum_congr rfl fun d _ => congrArg f (Fin.ext ?_)
  show (d.val + 64 * h.val) + 256 * c.val = 256 * c.val + (64 * h.val + d.val)
  omega

/-! ## A device's partial result -/

/-- The queries of a device: row `r` of the two batches' rows one after the other. -/
theorem queries_apply (x : Vec Ideal S2x256x512 .bf16) (wq : Vec Ideal S512x256 .bf16) (r : Fin 512) (c : Fin 256) :
    k0_pay3 x wq (ix2 r c) = ∑ t : Fin 512, x (ix3 (⟨r.val / 256, by omega⟩ : Fin 2) (⟨r.val % 256, by omega⟩ : Fin 256) t) * wq (ix2 t c) := by
  pointwise [k0_pay3]

/-- The last projection's rows of a device, as they are. -/
theorem wo_apply (w : Vec Ideal S256x512 .bf16) (r : Fin 256) (n : Fin 512) : k0_pay10 w (ix2 r n) = w (ix2 r n) := by
  pointwise [k0_pay10]

/-- One head's term of a device's partial result, at row `i` of batch `b` and column `n`. -/
def termAt (x : Vec Ideal S2x256x512 .bf16) (wq : Vec Ideal S512x256 .bf16) (wo : Vec Ideal S256x512 .bf16) (k v : Vec Ideal S16x1x256x64 .bf16)
    (b : Fin 2) (h : Fin 4) (i : Fin 256) (n : Fin 512) : EReal :=
  ∑ d : Fin 64, average (score (sees i) (fun d' => k0_pay3 x wq (ix2 ⟨256 * b.val + i.val, by omega⟩ ⟨64 * h.val + d'.val, by omega⟩)) (fun j d' => rows k (ix2 j d')))
    (fun j => rows v (ix2 j d)) * k0_pay10 wo (ix2 ⟨64 * h.val + d.val, by omega⟩ n)

/-- A device's partial result at an index: the sum of the terms of its four heads. -/
theorem partialOut_apply (x : Vec Ideal S2x256x512 .bf16) (wq : Vec Ideal S512x256 .bf16) (wo : Vec Ideal S256x512 .bf16) (kk vv : Fin 8 → Vec Ideal S16x1x256x64 .bf16)
    (b : Fin 2) (i : Fin 256) (n : Fin 512) :
    partialOut x wq wo kk vv (ix3 b i n)
      = ∑ h : Fin 4, termAt x wq wo (kk ⟨4 * b.val + h.val, by omega⟩) (vv ⟨4 * b.val + h.val, by omega⟩) b h i n := by
  rw [partialOut_eq]
  obtain rfl | rfl : b = 0 ∨ b = 1 := by omega
  · rw [(stack_apply _ _ i n).1, four_apply]
    refine Finset.sum_congr rfl fun h _ => ?_
    fin_cases h <;> exact headTerm_apply _ _ _ _ _ _ (by decide) (by decide) _ _ i n
  · rw [(stack_apply _ _ i n).2, four_apply]
    refine Finset.sum_congr rfl fun h _ => ?_
    fin_cases h <;> exact headTerm_apply _ _ _ _ _ _ (by decide) (by decide) _ _ i n

/-- A head of the gathered keys or values at a row: the row's device's own row, in the columns of the head. -/
theorem rows_head_apply (A : Dev nD → Vec Ideal S2x256x4096 .bf16) (c : Fin 16) (b : Fin 2) (h : Fin 4) (j : Fin 4096) (d : Fin 64) :
    rows (head (gath A c) ⟨4 * b.val + h.val, by omega⟩) (ix2 j d)
      = A (⟨j.val / 256, by omega⟩ : Fin 16) (ix3 b (⟨j.val % 256, by omega⟩ : Fin 256) (⟨256 * c.val + (64 * h.val + d.val), by omega⟩ : Fin 4096)) := by
  rw [rows_apply]
  unfold head gath
  have h0 : (headRect ⟨4 * b.val + h.val, by omega⟩).emb (ix4 (⟨j.val / 256, by omega⟩ : Fin 16) (0 : Fin 1) (⟨j.val % 256, by omega⟩ : Fin 256) d) 0 = (⟨j.val / 256, by omega⟩ : Fin 16) := by
    refine Fin.ext ?_
    show 0 + 1 * (j.val / 256) = j.val / 256
    omega
  rw [h0]
  refine congrArg (A _) (funext fun a => Fin.ext ?_)
  fin_cases a
  · show 0 + 1 * ((4 * b.val + h.val) / 4 + 1 * 0) = b.val
    omega
  · show 0 + 1 * (0 + 1 * (j.val % 256)) = j.val % 256
    omega
  · show 256 * c.val + 1 * (64 * ((4 * b.val + h.val) % 4) + 1 * d.val) = 256 * c.val + (64 * h.val + d.val)
    omega

/-! ## The result -/

/-- The sum of the devices' chunks at an index. -/
theorem sumChunks_apply (v : Vec Ideal S16x2x16x512 .f32) (b : Fin 2) (r : Fin 16) (n : Fin 512) :
    k0_pay30 v (ix3 b r n) = ∑ c : Fin 16, v (ix4 c b r n) := by
  pointwise [k0_pay30, k0_pay29]

/-- The result's rows are the devices' rows in order. -/
theorem ordered_apply (v : Vec Ideal S16x2x16x512 .f32) (b : Fin 2) (i : Fin 256) (n : Fin 512) :
    k0_pay33 v (ix3 b i n) = v (ix4 (⟨i.val / 16, by omega⟩ : Fin 16) b (⟨i.val % 16, by omega⟩ : Fin 16) n) := by
  pointwise [k0_pay33]

/-- The kernel's result at an index: the sum of the devices' partial results. -/
theorem result_apply (I : Inputs Ideal) (b : Fin 2) (i : Fin 256) (n : Fin 512) :
    result I (ix3 b i n) = ∑ c : Fin 16, part I c (ix3 b i n) := by
  rw [result, ordered_apply]
  refine (sumChunks_apply (chunks I (⟨i.val / 16, by omega⟩ : Fin 16)) b (⟨i.val % 16, by omega⟩ : Fin 16) n).trans ?_
  refine Finset.sum_congr rfl fun c _ => ?_
  refine congrArg (part I c) (funext fun a => Fin.ext ?_)
  fin_cases a
  · show 0 + 1 * b.val = b.val
    omega
  · show 16 * (i.val / 16) + 1 * (i.val % 16) = i.val
    omega
  · show 0 + 1 * n.val = n.val
    omega

/-- The kernel's result is the reference's, when what the devices are given are the blocks of the reference's arrays. -/
theorem result_eq_whole (I : Inputs Ideal) (x : FVec Ideal S2x256x512 .bf16) (wq : FVec Ideal ⟨2, ![512, 4096]⟩ .bf16) (k v : FVec Ideal ⟨4, ![2, 4096, 64, 64]⟩ .bf16)
    (wo : FVec Ideal ⟨2, ![4096, 512]⟩ .bf16)
    (hx : ∀ c, I.x c = x)
    (hq : ∀ (c : Fin 16) (t : Fin 512) (l : Fin 256), I.wq c (ix2 t l) = wq (ix2 t (⟨256 * c.val + l.val, by omega⟩ : Fin 4096)))
    (hk : ∀ (c : Fin 16) (b : Fin 2) (r : Fin 256) (e : Fin 4096), I.k c (ix3 b r e)
      = k (ix4 b (⟨256 * c.val + r.val, by omega⟩ : Fin 4096) (⟨e.val / 64, by omega⟩ : Fin 64) (⟨e.val % 64, by omega⟩ : Fin 64)))
    (hv : ∀ (c : Fin 16) (b : Fin 2) (r : Fin 256) (e : Fin 4096), I.v c (ix3 b r e)
      = v (ix4 b (⟨256 * c.val + r.val, by omega⟩ : Fin 4096) (⟨e.val / 64, by omega⟩ : Fin 64) (⟨e.val % 64, by omega⟩ : Fin 64)))
    (ho : ∀ (c : Fin 16) (l : Fin 256) (n : Fin 512), I.wo c (ix2 l n) = wo (ix2 (⟨256 * c.val + l.val, by omega⟩ : Fin 4096) n)) :
    result I = Cert.ReferenceIdeal.Own.whole x wq k v wo := by
  have row : ∀ j : Fin 4096, (⟨256 * (j.val / 256) + j.val % 256, by omega⟩ : Fin 4096) = j := fun j => Fin.ext (by show 256 * (j.val / 256) + j.val % 256 = j.val; omega)
  funext y
  obtain ⟨b, i, n, rfl⟩ : ∃ (b : Fin 2) (i : Fin 256) (n : Fin 512), y = ix3 b i n := ⟨y 0, y 1, y 2, eq_ix3 y⟩
  rw [result_apply, Cert.ReferenceIdeal.Own.whole_apply, sum_columns]
  refine Finset.sum_congr rfl fun c _ => ?_
  rw [part, partialOut_apply]
  refine Finset.sum_congr rfl fun h _ => Finset.sum_congr rfl fun d _ => ?_
  have hm : ∀ d : Fin 64, (256 * c.val + (64 * h.val + d.val)) % 64 = d.val := by intro d; omega
  have hd : ∀ d : Fin 64, (256 * c.val + (64 * h.val + d.val)) / 64 = 4 * c.val + h.val := by intro d; omega
  have e1 : (256 * b.val + i.val) / 256 = b.val := by omega
  have e2 : (256 * b.val + i.val) % 256 = i.val := by omega
  have e3 : ∀ d : Fin 64, (4 * c.val + h.val) * 64 + d.val = 256 * c.val + (64 * h.val + d.val) := by intro d; omega
  rw [wo_apply, ho]
  refine congrArg (· * _) ?_
  simp only [queries_apply, rows_head_apply, hx, hq, hk, hv, row, hd, hm, e1, e2, e3, Fin.eta]

end Cert.KernelIdeal.Own

end
-- ==== Proof.Agree.lean ====
/- The value claim: the kernel's run and the reference's run end with the same result. -/
module

public import proofs.«01_k».proof.Defs
public import proofs.«01_k».proof.Proof.Launch
public import proofs.«01_k».proof.Proof.Value
public import Idealize.ShloMosaic.Lib.Tactic.CleanTypes

@[expose] public section

set_option synthInstance.maxSize 4096
set_option maxRecDepth 16384

noncomputable section

namespace Cert.Proof

open Idealize.ShloMosaic Idealize.ShloMosaic.TcCoe Idealize.SL.Sem
open Cert.KernelIdeal Cert.KernelIdeal.Gen Cert.KernelIdeal.Own

variable (m : (ℓ : Loc nD τ sig) → Buf (Elt Ideal) ℓ)

/-- The keys as the kernel is given them: the argument with its heads' columns side by side. -/
theorem given_k (c : Dev nD) :
    (given m).k c = shapeCast S2x256x4096 (m ((c : Thread nD τ).loc main_arg2) : FVec Ideal S2x256x64x64 .bf16) shapeCasts_S2x256x64x64_S2x256x4096 := by
  show StableHlo.after hostOps0 (fun b => m (c, b)) main_v1 = _
  after_results
  rfl

/-- The values as the kernel is given them: the argument with its heads' columns side by side. -/
theorem given_v (c : Dev nD) :
    (given m).v c = shapeCast S2x256x4096 (m ((c : Thread nD τ).loc main_arg3) : FVec Ideal S2x256x64x64 .bf16) shapeCasts_S2x256x64x64_S2x256x4096 := by
  show StableHlo.after hostOps0 (fun b => m (c, b)) main_v2 = _
  after_results
  rfl

/-- A device's keys or values with its heads' columns side by side, at an index of the whole array. -/
theorem sideBySide_apply (v : FVec Ideal ⟨4, ![2, 4096, 64, 64]⟩ .bf16) (c : Fin 16) (b : Fin 2) (r : Fin 256) (e : Fin 4096) :
    shapeCast S2x256x4096 (Layout.block ⟨4, ![2, 256, 64, 64]⟩ ⟨4, ![2, 4096, 64, 64]⟩ 1 16 c v : FVec Ideal S2x256x64x64 .bf16) shapeCasts_S2x256x64x64_S2x256x4096 (ix3 b r e)
      = v (ix4 b (⟨256 * c.val + r.val, by omega⟩ : Fin 4096) (⟨e.val / 64, by omega⟩ : Fin 64) (⟨e.val % 64, by omega⟩ : Fin 64)) := by
  pointwise
  refine congrArg v (funext fun a => Fin.ext ?_)
  fin_cases a
  · rfl
  · show c.val * 256 + r.val = 256 * c.val + r.val
    omega
  · rfl
  · rfl

/-- The kernel's result is the reference's. -/
theorem results_agree (m' : (ℓ : Loc Cert.ReferenceIdeal.nD Cert.ReferenceIdeal.τ Cert.ReferenceIdeal.sig) → Buf (Elt Ideal) ℓ)
    (h : ∀ c : Dev nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨4, ![2, 256, 64, 64]⟩ ⟨4, ![2, 4096, 64, 64]⟩ 1 16 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨4, ![2, 256, 64, 64]⟩ ⟨4, ![2, 4096, 64, 64]⟩ 1 16 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) :
    result (given m) = Cert.ReferenceIdeal.Value.res_main_v53 (F := Ideal) m' 0 := by
  refine Eq.trans ?_ (Cert.ReferenceIdeal.Own.res_eq_whole m' 0).symm
  refine result_eq_whole (given m) _ _ _ _ _ (fun c => ?_) (fun c t l => ?_) (fun c b r e => ?_) (fun c b r e => ?_) (fun c l n => ?_)
  · exact (V_main_arg0 m c).trans (h c).1
  · refine (congrFun ((V_main_arg1 m c).trans (h c).2.1) (ix2 t l)).trans ?_
    refine congrArg (m' _) (funext fun a => Fin.ext ?_)
    fin_cases a
    · rfl
    · show c.val * 256 + l.val = 256 * c.val + l.val
      omega
  · rw [given_k, (h c).2.2.1]
    exact sideBySide_apply _ c b r e
  · rw [given_v, (h c).2.2.2.1]
    exact sideBySide_apply _ c b r e
  · refine (congrFun ((V_main_arg4 m c).trans (h c).2.2.2.2) (ix2 l n)).trans ?_
    refine congrArg (m' _) (funext fun a => Fin.ext ?_)
    fin_cases a
    · show c.val * 256 + l.val = 256 * c.val + l.val
      omega
    · rfl

/-- The kernel computes the reference's function over the extended reals. -/
theorem kernel_is_reference : Cert.algebraic_KernelIdeal_ReferenceIdeal := by
  intro m ρ m' ρ' _ h
  refine ⟨Cert.ReferenceIdeal.Value.res_main_v53 (F := Ideal) m' 0, (θ_run _ _ _).mono (fun r hr c => ?_) (run_main (F := Ideal) m ρ),
    (θ_run _ _ _).mono (fun _ hr => hr 0) (Cert.ReferenceIdeal.Value.run (F := Ideal) m' ρ')⟩
  exact ⟨((hr.1 c).2).trans (results_agree m m' h), (hr.1 c).1⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_kernelIdeal, frame_reference, trivial, kernel_is_reference⟩

end Cert.Proof

end
